-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x4096 : Shape := ⟨3, ![64, 1, 4096]⟩
abbrev S2x13824x4096 : Shape := ⟨3, ![2, 13824, 4096]⟩
abbrev S2x13824 : Shape := ⟨2, ![2, 13824]⟩
abbrev S64x4096 : Shape := ⟨2, ![64, 4096]⟩
abbrev S64x13824 : Shape := ⟨2, ![64, 13824]⟩
abbrev S4x2x512x4096 : Shape := ⟨4, ![4, 2, 512, 4096]⟩
abbrev S_ : Shape := ⟨0, ![]⟩
abbrev S4 : Shape := ⟨1, ![4]⟩
abbrev S1 : Shape := ⟨1, ![1]⟩
abbrev S1x2x512x4096 : Shape := ⟨4, ![1, 2, 512, 4096]⟩
abbrev S2x512x4096 : Shape := ⟨3, ![2, 512, 4096]⟩
abbrev S1x1x512x4096 : Shape := ⟨4, ![1, 1, 512, 4096]⟩
abbrev S512x4096 : Shape := ⟨2, ![512, 4096]⟩
abbrev S4096x512 : Shape := ⟨2, ![4096, 512]⟩
abbrev S64x512 : Shape := ⟨2, ![64, 512]⟩
abbrev S1x512 : Shape := ⟨2, ![1, 512]⟩
abbrev S64x1x13824 : Shape := ⟨3, ![64, 1, 13824]⟩

abbrev nBuf : Space → Nat
  | .hbm => 6
  | .vmem => 4
  | .smem => 0
  | _ => 0

abbrev bufTy : (tb : Table) → Fin (tcTables nBuf tb) → BufTy
  | .hbm, ⟨0, _⟩ => ⟨S64x1x4096, .bf16⟩
  | .hbm, ⟨1, _⟩ => ⟨S2x13824x4096, .i8⟩
  | .hbm, ⟨2, _⟩ => ⟨S2x13824, .f32⟩
  | .hbm, ⟨3, _⟩ => ⟨S64x4096, .bf16⟩
  | .hbm, ⟨4, _⟩ => ⟨S64x13824, .bf16⟩
  | .hbm, ⟨5, _⟩ => ⟨S64x1x13824, .bf16⟩
  | .local _ .vmem, ⟨0, _⟩ => ⟨S64x13824, .bf16⟩
  | .local _ .vmem, ⟨1, _⟩ => ⟨S64x4096, .bf16⟩
  | .local _ .vmem, ⟨2, _⟩ => ⟨S4x2x512x4096, .i8⟩
  | .local _ .vmem, ⟨3, _⟩ => ⟨S2x13824, .f32⟩
  | _, _ => ⟨S64x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
@[reducible] def k0_t1_loop : Scf.Loop 32 :=
  let c0_i32_19 : BitVec 32 := 0#32
  let c27_i32 : BitVec 32 := 27#32
  let v18 : BitVec 32 := Scalar.addi c0_i32_19 c27_i32
  let c1_i32_20 : BitVec 32 := 1#32
  ⟨c0_i32_19, v18, c1_i32_20⟩
def k0_cond1 (k0_t1 : Fin k0_t1_loop.trips) : BitVec 1 :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32_24 : BitVec 32 := 4#32
  let v22 : BitVec 32 := Scalar.addi v20 c4_i32_24
  let c1_i32_25 : BitVec 32 := 1#32
  let v23 : BitVec 32 := Scalar.subi v22 c1_i32_25
  let c27_i32_26 : BitVec 32 := 27#32
  let v24 : BitVec 1 := Scalar.cmpi .slt v23 c27_i32_26
  let v25 : BitVec 32 := Scalar.extui v24
  let c0_i32_27 : BitVec 32 := 0#32
  let v26 : BitVec 1 := Scalar.cmpi .ne v25 c0_i32_27
  v26

def k0_mult4 (k0_t1 : Fin k0_t1_loop.trips) : BitVec 32 :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32_47 : BitVec 32 := 4#32
  let v64 : BitVec 32 := Scalar.addi v20 c4_i32_47
  let c1_i32_48 : BitVec 32 := 1#32
  let v65 : BitVec 32 := Scalar.subi v64 c1_i32_48
  let c512_i32_52 : BitVec 32 := 512#32
  let v69 : BitVec 32 := Scalar.muli v65 c512_i32_52
  v69
def k0_off1 (k0_t1 : Fin k0_t1_loop.trips) : Fin 1 → Nat :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32_49 : BitVec 32 := 4#32
  let v66 : BitVec 32 := Scalar.addi v20 c4_i32_49
  let c1_i32_50 : BitVec 32 := 1#32
  let v67 : BitVec 32 := Scalar.subi v66 c1_i32_50
  let c4_i32_51 : BitVec 32 := 4#32
  let v68 : BitVec 32 := Scalar.remsi v67 c4_i32_51
  ![v68.toNat]
def k0_off2 (k0_t1 : Fin k0_t1_loop.trips) : Fin 4 → Nat :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32_49 : BitVec 32 := 4#32
  let v66 : BitVec 32 := Scalar.addi v20 c4_i32_49
  let c1_i32_50 : BitVec 32 := 1#32
  let v67 : BitVec 32 := Scalar.subi v66 c1_i32_50
  let c4_i32_51 : BitVec 32 := 4#32
  let v68 : BitVec 32 := Scalar.remsi v67 c4_i32_51
  let c0_i32_53 : BitVec 32 := 0#32
  let c0_i32_54 : BitVec 32 := 0#32
  let c0_i32_55 : BitVec 32 := 0#32
  ![v68.toNat, 0, 0, 0]
def k0_off3 (k0_t1 : Fin k0_t1_loop.trips) : Fin 3 → Nat :=
  let c0_i32_56 : BitVec 32 := 0#32
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32_47 : BitVec 32 := 4#32
  let v64 : BitVec 32 := Scalar.addi v20 c4_i32_47
  let c1_i32_48 : BitVec 32 := 1#32
  let v65 : BitVec 32 := Scalar.subi v64 c1_i32_48
  let c512_i32_52 : BitVec 32 := 512#32
  let v69 : BitVec 32 := Scalar.muli v65 c512_i32_52
  let v70 : BitVec 32 := v69
  let c0_i32_57 : BitVec 32 := 0#32
  ![0, v70.toNat, 0]
def k0_mult5 (k0_t1 : Fin k0_t1_loop.trips) : BitVec 32 :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c512_i32_28 : BitVec 32 := 512#32
  let v27 : BitVec 32 := Scalar.muli v20 c512_i32_28
  v27
def k0_off4 (k0_t1 : Fin k0_t1_loop.trips) : Fin 1 → Nat :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32 : BitVec 32 := 4#32
  let v21 : BitVec 32 := Scalar.remsi v20 c4_i32
  ![v21.toNat]
def k0_off5 (k0_t1 : Fin k0_t1_loop.trips) : Fin 4 → Nat :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32 : BitVec 32 := 4#32
  let v21 : BitVec 32 := Scalar.remsi v20 c4_i32
  let c0_i32_29 : BitVec 32 := 0#32
  let c0_i32_30 : BitVec 32 := 0#32
  let c0_i32_31 : BitVec 32 := 0#32
  ![v21.toNat, 0, 0, 0]
def k0_off6 (k0_t1 : Fin k0_t1_loop.trips) : Fin 3 → Nat :=
  let c0_i32_32 : BitVec 32 := 0#32
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c512_i32_28 : BitVec 32 := 512#32
  let v27 : BitVec 32 := Scalar.muli v20 c512_i32_28
  let v28 : BitVec 32 := v27
  let c0_i32_33 : BitVec 32 := 0#32
  ![0, v28.toNat, 0]
def k0_mult6 (k0_t1 : Fin k0_t1_loop.trips) : BitVec 32 :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c512_i32_34 : BitVec 32 := 512#32
  let v34 : BitVec 32 := Scalar.muli v20 c512_i32_34
  v34
def k0_off7 (k0_t1 : Fin k0_t1_loop.trips) : Fin 4 → Nat :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32 : BitVec 32 := 4#32
  let v21 : BitVec 32 := Scalar.remsi v20 c4_i32
  let v36 : Index := Scalar.indexCast v21
  let c0 : Index := 0#32
  let c0_35 : Index := 0#32
  let c0_36 : Index := 0#32
  ![v36.toNat, 0, 0, 0]
def k0_off8 (k0_t1 : Fin k0_t1_loop.trips) : Fin 2 → Nat :=
  let c0_39 : Index := 0#32
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c512_i32_34 : BitVec 32 := 512#32
  let v34 : BitVec 32 := Scalar.muli v20 c512_i32_34
  let v35 : BitVec 32 := v34
  let v43 : Index := Scalar.indexCast v35
  ![0, v43.toNat]
def k0_off9 (k0_t1 : Fin k0_t1_loop.trips) : Fin 4 → Nat :=
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c4_i32 : BitVec 32 := 4#32
  let v21 : BitVec 32 := Scalar.remsi v20 c4_i32
  let v47 : Index := Scalar.indexCast v21
  let c1 : Index := 1#32
  let c0_40 : Index := 0#32
  let c0_41 : Index := 0#32
  ![v47.toNat, 1, 0, 0]
def k0_off10 (k0_t1 : Fin k0_t1_loop.trips) : Fin 2 → Nat :=
  let c1_45 : Index := 1#32
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c512_i32_34 : BitVec 32 := 512#32
  let v34 : BitVec 32 := Scalar.muli v20 c512_i32_34
  let v35 : BitVec 32 := v34
  let v54 : Index := Scalar.indexCast v35
  ![1, v54.toNat]
def k0_off11 (k0_t1 : Fin k0_t1_loop.trips) : Fin 2 → Nat :=
  let c0_46 : Index := 0#32
  let c0_i32_23 : BitVec 32 := 0#32
  let c0_i32_19 : BitVec 32 := 0#32
  let c1_i32_20 : BitVec 32 := 1#32
  let arg10 : BitVec 32 := Scf.iv c0_i32_19 c1_i32_20 k0_t1
  let c1_i32_22 : BitVec 32 := 1#32
  let v19 : BitVec 32 := Scalar.muli arg10 c1_i32_22
  let v20 : BitVec 32 := Scalar.addi c0_i32_23 v19
  let c512_i32_34 : BitVec 32 := 512#32
  let v34 : BitVec 32 := Scalar.muli v20 c512_i32_34
  let v35 : BitVec 32 := v34
  let v62 : Index := Scalar.indexCast v35
  ![0, v62.toNat]
abbrev stage0_0 : Fin 1 → Memref sig .tc .vmem S64x13824 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S64x1x4096 : Shape := ⟨3, ![64, 1, 4096]⟩
abbrev S2x13824x4096 : Shape := ⟨3, ![2, 13824, 4096]⟩
abbrev S2x13824 : Shape := ⟨2, ![2, 13824]⟩
abbrev S1x13824x4096 : Shape := ⟨3, ![1, 13824, 4096]⟩
abbrev S13824x4096 : Shape := ⟨2, ![13824, 4096]⟩
abbrev S1x13824 : Shape := ⟨2, ![1, 13824]⟩
abbrev S13824 : Shape := ⟨1, ![13824]⟩
abbrev S64x1x13824 : Shape := ⟨3, ![64, 1, 13824]⟩
abbrev S1x1x13824 : Shape := ⟨3, ![1, 1, 13824]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S64x1x4096, .bf16⟩
  | .hbm, ⟨1, _⟩ => ⟨S2x13824x4096, .i8⟩
  | .hbm, ⟨2, _⟩ => ⟨S2x13824, .f32⟩
  | .hbm, ⟨3, _⟩ => ⟨S1x13824x4096, .i8⟩
  | .hbm, ⟨4, _⟩ => ⟨S13824x4096, .i8⟩
  | .hbm, ⟨5, _⟩ => ⟨S1x13824, .f32⟩
  | .hbm, ⟨6, _⟩ => ⟨S13824, .f32⟩
  | .hbm, ⟨7, _⟩ => ⟨S13824x4096, .i32⟩
  | .hbm, ⟨8, _⟩ => ⟨S13824x4096, .f32⟩
  | .hbm, ⟨9, _⟩ => ⟨S13824x4096, .bf16⟩
  | .hbm, ⟨10, _⟩ => ⟨S64x1x13824, .f32⟩
  | .hbm, ⟨11, _⟩ => ⟨S1x1x13824, .f32⟩
  | .hbm, ⟨12, _⟩ => ⟨S64x1x13824, .f32⟩
  | .hbm, ⟨13, _⟩ => ⟨S64x1x13824, .f32⟩
  | .hbm, ⟨14, _⟩ => ⟨S1x13824x4096, .i8⟩
  | .hbm, ⟨15, _⟩ => ⟨S13824x4096, .i8⟩
  | .hbm, ⟨16, _⟩ => ⟨S1x13824, .f32⟩
  | .hbm, ⟨17, _⟩ => ⟨S13824, .f32⟩
  | .hbm, ⟨18, _⟩ => ⟨S13824x4096, .i32⟩
  | .hbm, ⟨19, _⟩ => ⟨S13824x4096, .f32⟩
  | .hbm, ⟨20, _⟩ => ⟨S13824x4096, .bf16⟩
  | .hbm, ⟨21, _⟩ => ⟨S64x1x13824, .f32⟩
  | .hbm, ⟨22, _⟩ => ⟨S1x1x13824, .f32⟩
  | .hbm, ⟨23, _⟩ => ⟨S64x1x13824, .f32⟩
  | .hbm, ⟨24, _⟩ => ⟨S64x1x13824, .f32⟩
  | .hbm, ⟨25, _⟩ => ⟨S64x1x13824, .f32⟩
  | .hbm, ⟨26, _⟩ => ⟨S64x1x13824, .f32⟩
  | .hbm, ⟨27, _⟩ => ⟨S_, .f32⟩
  | .hbm, ⟨28, _⟩ => ⟨S64x1x13824, .f32⟩
  | .hbm, ⟨29, _⟩ => ⟨S64x1x13824, .f32⟩
  | .hbm, ⟨30, _⟩ => ⟨S_, .f32⟩
  | .hbm, ⟨31, _⟩ => ⟨S64x1x13824, .f32⟩
  | .hbm, ⟨32, _⟩ => ⟨S64x1x13824, .f32⟩
  | .hbm, ⟨33, _⟩ => ⟨S64x1x13824, .f32⟩
  | .hbm, ⟨34, _⟩ => ⟨S64x1x13824, .f32⟩
  | .hbm, ⟨35, _⟩ => ⟨S64x1x13824, .bf16⟩
  | _, _ => ⟨S64x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.RefValue.lean ====
/-
  The function both programs compute, and the reference's result as that function.

  The int8 gated linear unit at one output element (b, o): with `x` the row of activations, `w0` and `w1` the two rows of
  int8 codes and `s0`, `s1` their scales, `gate = (Σ k, x k · w0 k) · s0`, `up = (Σ k, x k · w1 k) · s1`, and the result is
  `gate · logistic gate · up`. Everything is in the extended reals.
-/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.ValueIdx
public import Idealize.ShloMosaic.PureOps.Ideal.Laws

@[expose] public section

noncomputable section

open scoped BigOperators
open Idealize.ShloMosaic Idealize.ShloMosaic.TcCoe Idealize.ShloMosaic.ValueIdx

namespace Cert.Glu

/-- One scaled dot product: a row of activations by a row of int8 codes, times the row's scale. -/
def lin (x : Fin 4096 → EReal) (w : Fin 4096 → BitVec 8) (s : EReal) : EReal :=
  (∑ k : Fin 4096, x k * (((w k).toInt : ℝ) : EReal)) * s

/-- The gate: `g · logistic g · u`. -/
def glu (g u : EReal) : EReal := g * Ideal.logistic g * u

/-- Element (b, o) of the int8 gated linear unit of activations `x`, codes `w` and scales `s`. -/
def elem (x : Fin 64 → Fin 4096 → EReal) (w : Fin 2 → Fin 13824 → Fin 4096 → BitVec 8) (s : Fin 2 → Fin 13824 → EReal)
    (b : Fin 64) (o : Fin 13824) : EReal :=
  glu (lin (x b) (w 0 o) (s 0 o)) (lin (x b) (w 1 o) (s 1 o))

/-- The word 0x3F800000 read as an f32 is one. -/
theorem ofBits_one : Ideal.ofBits .f32 0x3F800000#32 = 1 := by
  simp [Ideal.ofBits, Ideal.ieee, -EReal.coe_mul]; norm_num

end Cert.Glu

namespace Cert.ReferenceIdeal.RefValue

open Cert.ReferenceIdeal Cert.ReferenceIdeal.Gen Cert.ReferenceIdeal.Read Cert.Glu

/-- The whole result array of the gated linear unit, from the three argument arrays. -/
def whole (x0 : FVec Ideal S64x1x4096 .bf16) (x1 : IVec S2x13824x4096 8) (x2 : FVec Ideal S2x13824 .f32) :
    FVec Ideal S64x1x13824 .bf16 := fun i =>
  elem (fun b k => x0 (ix3 b 0 k)) (fun n o k => x1 (ix3 n o k)) (fun n o => x2 (ix2 n o)) (i 0) (i 2)

variable (x0 : FVec Ideal S64x1x4096 .bf16) (x1 : IVec S2x13824x4096 8) (x2 : FVec Ideal S2x13824 .f32)

/-- The first half's codes, converted, at (o, k): the code's integer. -/
theorem codes0 (o : Fin 13824) (k : Fin 4096) :
    val_main_v6 (F := Ideal) x1 (ix2 o k) = (((x1 (ix3 0 o k)).toInt : ℝ) : EReal) := by
  rw [val_main_v6_apply, val_main_v5_apply, val_main_v4_apply, val_main_v1_apply, val_main_v0_apply]
  have e : idx_main_v0 (idx_main_v1 (ix2 o k)) = ix3 0 o k := by
    funext a; match a with
    | ⟨0, _⟩ => rfl
    | ⟨1, _⟩ => exact Fin.ext (show (o.val * 4096 + k.val) / 4096 % 13824 = o.val by omega)
    | ⟨2, _⟩ => exact Fin.ext (show (o.val * 4096 + k.val) % 4096 = k.val by omega)
  rw [e]
  show ((((x1 (ix3 0 o k)).signExtend 32).toInt : ℝ) : EReal) = _
  rw [BitVec.toInt_signExtend_of_le (by decide)]

/-- The second half's codes, converted, at (o, k): the code's integer. -/
theorem codes1 (o : Fin 13824) (k : Fin 4096) :
    val_main_v17 (F := Ideal) x1 (ix2 o k) = (((x1 (ix3 1 o k)).toInt : ℝ) : EReal) := by
  rw [val_main_v17_apply, val_main_v16_apply, val_main_v15_apply, val_main_v12_apply, val_main_v11_apply]
  have e : idx_main_v11 (idx_main_v12 (ix2 o k)) = ix3 1 o k := by
    funext a; match a with
    | ⟨0, _⟩ => rfl
    | ⟨1, _⟩ => exact Fin.ext (show (o.val * 4096 + k.val) / 4096 % 13824 = o.val by omega)
    | ⟨2, _⟩ => exact Fin.ext (show (o.val * 4096 + k.val) % 4096 = k.val by omega)
  rw [e]
  show ((((x1 (ix3 1 o k)).signExtend 32).toInt : ℝ) : EReal) = _
  rw [BitVec.toInt_signExtend_of_le (by decide)]

/-- The first half's scale, broadcast over the rows. -/
theorem scale0 (b : Fin 64) (z : Fin 1) (o : Fin 13824) : val_main_v9 (F := Ideal) x2 (ix3 b z o) = x2 (ix2 0 o) := by
  rw [val_main_v9_apply, val_main_v8_apply, val_main_v3_apply, val_main_v2_apply]
  refine congrArg x2 (funext fun a => ?_)
  match a with
  | ⟨0, _⟩ => rfl
  | ⟨1, _⟩ => exact Fin.ext (show o.val % 13824 = o.val by omega)

/-- The second half's scale, broadcast over the rows. -/
theorem scale1 (b : Fin 64) (z : Fin 1) (o : Fin 13824) : val_main_v20 (F := Ideal) x2 (ix3 b z o) = x2 (ix2 1 o) := by
  rw [val_main_v20_apply, val_main_v19_apply, val_main_v14_apply, val_main_v13_apply]
  refine congrArg x2 (funext fun a => ?_)
  match a with
  | ⟨0, _⟩ => rfl
  | ⟨1, _⟩ => exact Fin.ext (show o.val % 13824 = o.val by omega)

/-- The reference's gate at (b, o). -/
theorem gate_eq (b : Fin 64) (z : Fin 1) (o : Fin 13824) : val_main_v10 (F := Ideal) x0 x1 x2 (ix3 b z o)
    = lin (fun k => x0 (ix3 b 0 k)) (fun k => x1 (ix3 0 o k)) (x2 (ix2 0 o)) := by
  obtain rfl : z = 0 := Subsingleton.elim _ _
  rw [val_main_v10_apply, val_main_v7_apply, scale0]
  show (_ : EReal) * _ = _
  unfold lin
  congr 1
  refine Finset.sum_congr rfl fun k _ => ?_
  have el : lidx_main_v7 (ix3 b 0 o) k = ix3 b 0 k := by
    funext a; match a with | ⟨0, _⟩ => rfl | ⟨1, _⟩ => rfl | ⟨2, _⟩ => rfl
  have er : ridx_main_v7 (ix3 b 0 o) k = ix2 o k := by
    funext a; match a with | ⟨0, _⟩ => rfl | ⟨1, _⟩ => rfl
  rw [el, er, codes0]

/-- The reference's up projection at (b, o). -/
theorem up_eq (b : Fin 64) (z : Fin 1) (o : Fin 13824) : val_main_v21 (F := Ideal) x0 x1 x2 (ix3 b z o)
    = lin (fun k => x0 (ix3 b 0 k)) (fun k => x1 (ix3 1 o k)) (x2 (ix2 1 o)) := by
  obtain rfl : z = 0 := Subsingleton.elim _ _
  rw [val_main_v21_apply, val_main_v18_apply, scale1]
  show (_ : EReal) * _ = _
  unfold lin
  congr 1
  refine Finset.sum_congr rfl fun k _ => ?_
  have el : lidx_main_v18 (ix3 b 0 o) k = ix3 b 0 k := by
    funext a; match a with | ⟨0, _⟩ => rfl | ⟨1, _⟩ => rfl | ⟨2, _⟩ => rfl
  have er : ridx_main_v18 (ix3 b 0 o) k = ix2 o k := by
    funext a; match a with | ⟨0, _⟩ => rfl | ⟨1, _⟩ => rfl
  rw [el, er, codes1]

/-- The reference's result is the gated linear unit, at every index. -/
theorem result_eq : val_main_v24 (F := Ideal) x0 x1 x2 = whole x0 x1 x2 := by
  funext i
  obtain ⟨b, z, o, rfl⟩ : ∃ b z o, i = ix3 b z o := ⟨i 0, i 1, i 2, eq_ix3 i⟩
  rw [val_main_v24_apply, val_main_v23_apply, val_main_v22_apply, val_main_call0_v5_apply, val_main_call0_v4_apply,
    val_main_call0_cst_0_apply, val_main_call0_v3_apply, val_main_call0_v2_apply, val_main_call0_cst_apply,
    val_main_call0_v1_apply, val_main_call0_v0_apply, gate_eq, up_eq]
  show (lin _ _ _ * Ideal.div (Ideal.ofBits .f32 0x3F800000#32)
    (Ideal.ofBits .f32 0x3F800000#32 + Ideal.exp (-lin _ _ _))) * lin _ _ _ = _
  rw [ofBits_one]
  rfl

end Cert.ReferenceIdeal.RefValue

end
-- ==== Proof.Block.lean ====
/-
  The arithmetic of one block of the kernel, read at an index, in the extended reals.
-/
module

public import proofs.«01_k».proof.Proof.RefValue
public import proofs.«01_k».proof.Proof.Gen.KernelIdeal.Skeleton
public import Idealize.ShloMosaic.Lib.Pipeline.Value
public import Idealize.ShloMosaic.Lib.ValueIdx
public import Idealize.ShloMosaic.PureOps.Ideal.Laws

@[expose] public section

noncomputable section

open scoped BigOperators
open Idealize.ShloMosaic Idealize.ShloMosaic.TcCoe Idealize.ShloMosaic.ValueIdx

namespace Cert.KernelIdeal.Block

open Cert.KernelIdeal Cert.KernelIdeal.Gen Cert.Glu

/-- The block's dimension numbers: rows by contraction, times contraction by columns. -/
abbrev dd : DotDims S64x4096 S4096x512 S64x512 := dot_S64x4096_S4096x512_S64x512_1_0_0_1_n_n

theorem lhs0 (i : S64x512.Idx) (q : dd.contr.Idx) : (dd.lhsIdx i q 0).val = (i 0).val := by
  unfold DotDims.lhsIdx
  rw [dif_neg (show ¬(0 : Fin S64x4096.rank) ∈ dd.lhsBatch by decide),
    dif_pos (show (0 : Fin S64x4096.rank) ∈ dd.lhsNonContracting by decide)]
  rfl

theorem lhs1 (i : S64x512.Idx) (q : dd.contr.Idx) : (dd.lhsIdx i q 1).val = (q ⟨0, by decide⟩).val :=
  dd.lhsIdx_val_of_single rfl i q

theorem rhs0 (i : S64x512.Idx) (q : dd.contr.Idx) : (dd.rhsIdx i q 0).val = (q ⟨0, by decide⟩).val :=
  dd.rhsIdx_val_of_single rfl i q

theorem rhs1 (i : S64x512.Idx) (q : dd.contr.Idx) : (dd.rhsIdx i q 1).val = (i 1).val := by
  unfold DotDims.rhsIdx
  rw [dif_neg (show ¬(1 : Fin S4096x512.rank) ∈ dd.rhsBatch by decide),
    dif_pos (show (1 : Fin S4096x512.rank) ∈ dd.rhsNonContracting by decide)]
  rfl

/-- The block product into a zero accumulator at (b, j) is the sum over the contraction coordinate. -/
theorem matmul_at (x : FVec Ideal S64x4096 .bf16) (w : FVec Ideal S4096x512 .bf16) (b : Fin 64) (j : Fin 512) :
    matmul dd none x w (constant S64x512 .f32 0x00000000#32) (ix2 b j) = ∑ k : Fin 4096, x (ix2 b k) * w (ix2 k j) := by
  simp only [matmul]
  rw [Ideal.matmul_constant_zero_apply, ← Equiv.sum_comp (contrEquiv1 dd 4096 rfl rfl).symm]
  refine Finset.sum_congr rfl fun k _ => ?_
  have hk := contrEquiv1_symm_val dd 4096 rfl rfl k
  have el : dd.lhsIdx (ix2 b j) ((contrEquiv1 dd 4096 rfl rfl).symm k) = ix2 b k := funext fun a => Fin.ext (by
    match a with
    | ⟨0, _⟩ => exact lhs0 _ _
    | ⟨1, _⟩ => exact (lhs1 _ _).trans hk)
  have er : dd.rhsIdx (ix2 b j) ((contrEquiv1 dd 4096 rfl rfl).symm k) = ix2 k j := funext fun a => Fin.ext (by
    match a with
    | ⟨0, _⟩ => exact (rhs0 _ _).trans hk
    | ⟨1, _⟩ => exact rhs1 _ _)
  rw [el, er]

/-- Transposed and converted codes at (k, j): the code at (j, k), as an integer. -/
theorem codes_at (q : IVec S512x4096 8) (k : Fin 4096) (j : Fin 512) :
    (sitofp .bf16 (transpose S4096x512 [1, 0] q transposes_S512x4096_p1_0_S4096x512) : FVec Ideal S4096x512 .bf16) (ix2 k j)
      = (((q (ix2 j k)).toInt : ℝ) : EReal) := by
  rw [sitofp_apply, transpose_apply [1, 0] q transposes_S512x4096_p1_0_S4096x512 (ix2 k j) (ix2 j k)
    (fun a => match a with | ⟨0, _⟩ => rfl | ⟨1, _⟩ => rfl)]
  rfl

/-- A row of scales broadcast over the block's rows, at (b, j). -/
theorem scale_at (s : FVec Ideal S1x512 .f32) (b : Fin 64) (j : Fin 512) :
    broadcastTo S64x512 s broadcasts_S1x512_S64x512 (ix2 b j) = s (ix2 0 j) :=
  broadcastTo_apply s broadcasts_S1x512_S64x512 (ix2 b j) (ix2 0 j) (fun a => match a with
    | ⟨0, _⟩ => by show 0 = if (1 : Nat) = 1 then 0 else _; rw [if_pos rfl]
    | ⟨1, _⟩ => by show j.val = if (512 : Nat) = 1 then 0 else j.val; rw [if_neg (by decide)])

/-- One half of the block, at (b, j): the scaled dot product of row `b` of the activations and row `j` of the codes. -/
theorem half_at (x : FVec Ideal S64x4096 .bf16) (q : IVec S512x4096 8) (s : FVec Ideal S1x512 .f32) (b : Fin 64)
    (j : Fin 512) :
    mulf (matmul dd none x (sitofp .bf16 (transpose S4096x512 [1, 0] q transposes_S512x4096_p1_0_S4096x512))
        (constant S64x512 .f32 0x00000000#32)) (broadcastTo S64x512 s broadcasts_S1x512_S64x512) (ix2 b j)
      = lin (fun k => x (ix2 b k)) (fun k => q (ix2 j k)) (s (ix2 0 j)) := by
  rw [mulf_apply, matmul_at, scale_at]
  unfold lin
  congr 1
  exact Finset.sum_congr rfl fun k _ => by rw [codes_at]

/-- The int8 codes of one half without the block's two unit axes, at (j, k). -/
theorem drop_at (w : IVec S1x1x512x4096 8) (j : Fin 512) (k : Fin 4096) :
    shapeCast S512x4096 w shapeCasts_S1x1x512x4096_S512x4096 (ix2 j k) = w (ix4 0 0 j k) :=
  shapeCast_apply w shapeCasts_S1x1x512x4096_S512x4096 (ix2 j k) (ix4 0 0 j k) (by
    rw [Shape.rowMajor_val_four, Shape.rowMajor_val_two]
    show ((0 * 1 + 0) * 512 + j.val) * 4096 + k.val = j.val * 4096 + k.val
    omega)

/-- What one trip stores, at (b, j), from the loaded activations, codes and scales. -/
theorem pay_at (x : FVec Ideal S64x4096 .bf16) (w0 : IVec S1x1x512x4096 8) (s0 : FVec Ideal S1x512 .f32)
    (w1 : IVec S1x1x512x4096 8) (s1 : FVec Ideal S1x512 .f32) (b : Fin 64) (j : Fin 512) :
    k0_pay1 (F := Ideal) (k0_pay2 w0 x s0) (k0_pay3 w1) x s1 (ix2 b j)
      = glu (lin (fun k => x (ix2 b k)) (fun k => w0 (ix4 0 0 j k)) (s0 (ix2 0 j)))
          (lin (fun k => x (ix2 b k)) (fun k => w1 (ix4 0 0 j k)) (s1 (ix2 0 j))) := by
  have h0 := half_at x (shapeCast S512x4096 w0 shapeCasts_S1x1x512x4096_S512x4096) s0 b j
  have h1 := half_at x (shapeCast S512x4096 w1 shapeCasts_S1x1x512x4096_S512x4096) s1 b j
  simp only [drop_at] at h0 h1
  rw [← h0, ← h1]
  unfold k0_pay1 k0_pay2 k0_pay3
  rfl

end Cert.KernelIdeal.Block

end
-- ==== Proof.RingIdeal.lean ====
/-
  The kernel's ring of weight blocks: four slots of vector memory, three blocks of 512 output columns ahead, each slot
  counted on a semaphore of its own. This module names the blocks and the slots, states what one trip of the kernel's
  loop does to them, and gives the loop its invariant.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring.Trips
public import Idealize.ShloMosaic.Lib.Tactic

@[expose] public section

noncomputable section

namespace Cert.KernelIdeal.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds beside the counters the kernel's own transfers ride on -/

/-- The resources beside memory: the transfers' and the counters'. -/
abbrev UU (nD : Nat) (τ : Topo) : Type := UR sig nD τ × Counters
local notation "𝕄" => MT nD τ sig Unit (Elt F) ℕ (UU nD τ) ℕ
/-- No variants: every loop here has its own trip count. -/
abbrev 𝒱₀ : Variants := Variants.none

omit [FloatOps F] in
/-- Equal assertions entail each other. -/
theorem entails_of_eq {P Q : sProp 𝕄} (e : P = Q) : P ⊢ Q := e ▸ .rfl

/-! ## Names for the weight blocks, the slots and their semaphores -/

/-- The activations, the weights and the scales in main memory, and their buffers in vector memory. -/
abbrev xH : Memref sig .tc .hbm S64x4096 .bf16 := Memref.whole main_v0
abbrev wH : Memref sig .tc .hbm S2x13824x4096 .i8 := Memref.whole main_arg1
abbrev sH : Memref sig .tc .hbm S2x13824 .f32 := Memref.whole main_arg2
abbrev xM : Memref sig .tc .vmem S64x4096 .bf16 := Memref.whole cc0_scratch0
abbrev wM : Memref sig .tc .vmem S4x2x512x4096 .i8 := Memref.whole cc0_scratch1
abbrev sM : Memref sig .tc .vmem S2x13824 .f32 := Memref.whole cc0_scratch2

/-- Where block `b` starts in the weights. -/
abbrev blkOff (b : Fin 27) : Fin 3 → Nat := ![0, 512 * b.val, 0]
/-- Block `b` lies within the weights. -/
theorem blkOff_inb (b : Fin 27) : ∀ a, blkOff b a + S2x512x4096.size a ≤ S2x13824x4096.size a := by
  have := b.isLt; intro a; fin_cases a
  · show 0 + 2 ≤ 2; omega
  · show 512 * b.val + 512 ≤ 13824; omega
  · show 0 + 4096 ≤ 4096; omega
/-- Where slot `s` starts in the ring's buffer. -/
abbrev slotOff (s : Fin 4) : Fin 4 → Nat := ![s.val, 0, 0, 0]
/-- Slot `s` lies within the ring's buffer. -/
theorem slotOff_inb (s : Fin 4) : ∀ a, slotOff s a + S1x2x512x4096.size a ≤ S4x2x512x4096.size a := by
  have := s.isLt; intro a; fin_cases a
  · show s.val + 1 ≤ 4; omega
  · show 0 + 2 ≤ 2; omega
  · show 0 + 512 ≤ 512; omega
  · show 0 + 4096 ≤ 4096; omega
/-- Where slot `s`'s semaphore lies in the array of four. -/
abbrev semOff (s : Fin 4) : Fin 1 → Nat := ![s.val]
/-- Slot `s`'s semaphore lies within the array of four. -/
theorem semOff_inb (s : Fin 4) : ∀ a, semOff s a + S1.size a ≤ S4.size a := by
  have := s.isLt; intro a; fin_cases a; show s.val + 1 ≤ 4; omega

/-- Block `b` of the weights: both matrices' rows `512 b … 512 b + 511`, as the kernel slices them. -/
def blk (b : Fin 27) : Memref sig .tc .hbm S2x512x4096 .i8 :=
  wH.slice (Rect.unit (s := S2x13824x4096) (blkOff b) S2x512x4096.size (blkOff_inb b)) (fun _ => rfl)
/-- Slot `s` of the ring, as the kernel slices and squeezes it. -/
def slot (s : Fin 4) : Memref sig .tc .vmem S2x512x4096 .i8 :=
  (wM.slice (Rect.unit (s := S4x2x512x4096) (slotOff s) S1x2x512x4096.size (slotOff_inb s)) (fun _ => rfl)).squeeze S2x512x4096 squeezes_S1x2x512x4096_S2x512x4096
/-- Slot `s`'s semaphore. -/
def csm (s : Fin 4) : DmaSems sig S_ := (cc0_scratch4.slice (Rect.unit (s := S4) (semOff s) S1.size (semOff_inb s))).squeeze S_ squeezes_S1_S_

instance (k : ℕ) : ClosedOff (slotOff (Ring.sl 4 k)) := ⟨![k % 4, 0, 0, 0], by rw [slotOff, Ring.sl_val]⟩
instance (b : Fin 27) : ClosedOff (blkOff b) := ⟨blkOff b, rfl⟩

/-- The loop has 27 trips; all but the last three start a block. -/
theorem trips : k0_t1_loop.trips = 27 := by decide +kernel
theorem cond_on : ∀ k : Fin k0_t1_loop.trips, k.val + 3 < 27 → k0_cond1 k = 1#1 := by decide +kernel
theorem cond_off : ∀ k : Fin k0_t1_loop.trips, ¬ k.val + 3 < 27 → ¬ k0_cond1 k = 1#1 := by decide +kernel

/-- The semaphores, slots and blocks at equal offsets are equal. -/
theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
theorem slot_congr {off : Fin 4 → Nat} {s : Fin 4} (e : off = slotOff s) (hh hs) :
    (wM.slice (Rect.unit (s := S4x2x512x4096) off S1x2x512x4096.size hh) hs).squeeze S2x512x4096 squeezes_S1x2x512x4096_S2x512x4096 = slot s :=
  congrArg (fun M : Memref sig .tc .vmem S1x2x512x4096 .i8 => M.squeeze S2x512x4096 squeezes_S1x2x512x4096_S2x512x4096) (Memref.slice_unit_congr _ e _ _ _ _)
theorem blk_congr {off : Fin 3 → Nat} {b : Fin 27} (e : off = blkOff b) (hh hs) :
    wH.slice (Rect.unit (s := S2x13824x4096) off S2x512x4096.size hh) hs = blk b :=
  Memref.slice_unit_congr _ e _ _ _ (fun _ => rfl)

/-- The prologue's slices are slots, semaphores and blocks 0, 1 and 2. -/
@[sl_canon] theorem semL0 (hh) : (cc0_scratch4.slice (Rect.unit (s := S4) ![0] S1.size hh)).squeeze S_ squeezes_S1_S_ = csm 0 := csm_congr (by decide) _
@[sl_canon] theorem semL1 (hh) : (cc0_scratch4.slice (Rect.unit (s := S4) ![1] S1.size hh)).squeeze S_ squeezes_S1_S_ = csm 1 := csm_congr (by decide) _
@[sl_canon] theorem semL2 (hh) : (cc0_scratch4.slice (Rect.unit (s := S4) ![2] S1.size hh)).squeeze S_ squeezes_S1_S_ = csm 2 := csm_congr (by decide) _
@[sl_canon] theorem slotL0 (hh hs) : (wM.slice (Rect.unit (s := S4x2x512x4096) ![0, 0, 0, 0] S1x2x512x4096.size hh) hs).squeeze S2x512x4096 squeezes_S1x2x512x4096_S2x512x4096 = slot 0 := slot_congr (by decide) _ _
@[sl_canon] theorem slotL1 (hh hs) : (wM.slice (Rect.unit (s := S4x2x512x4096) ![1, 0, 0, 0] S1x2x512x4096.size hh) hs).squeeze S2x512x4096 squeezes_S1x2x512x4096_S2x512x4096 = slot 1 := slot_congr (by decide) _ _
@[sl_canon] theorem slotL2 (hh hs) : (wM.slice (Rect.unit (s := S4x2x512x4096) ![2, 0, 0, 0] S1x2x512x4096.size hh) hs).squeeze S2x512x4096 squeezes_S1x2x512x4096_S2x512x4096 = slot 2 := slot_congr (by decide) _ _
@[sl_canon] theorem blkL0 (hh hs) : wH.slice (Rect.unit (s := S2x13824x4096) ![0, 0, 0] S2x512x4096.size hh) hs = blk 0 := blk_congr (by decide) _ _
@[sl_canon] theorem blkL1 (hh hs) : wH.slice (Rect.unit (s := S2x13824x4096) ![0, 512, 0] S2x512x4096.size hh) hs = blk 1 := blk_congr (by decide) _ _
@[sl_canon] theorem blkL2 (hh hs) : wH.slice (Rect.unit (s := S2x13824x4096) ![0, 1024, 0] S2x512x4096.size hh) hs = blk 2 := blk_congr (by decide) _ _

section Trip
variable (k : Fin k0_t1_loop.trips)

/-- A trip's number is below 27. -/
theorem lt27 : k.val < 27 := Nat.lt_of_lt_of_eq k.isLt trips
/-- Trip `s`'s slot is `s % 4`. -/
theorem off_sl (s : ℕ) : (Ring.sl 4 s).val = s % 4 := Ring.sl_val 4 s

/-- Trip `k` starts block `k + 3` into slot `(k + 3) % 4` and waits block `k` in slot `k % 4`. -/
@[sl_canon] theorem semI (hh) : (cc0_scratch4.slice (Rect.unit (s := S4) (k0_off1 k) S1.size hh)).squeeze S_ squeezes_S1_S_ = csm (Ring.sl 4 (k.val + 3)) :=
  csm_congr ((k0_off1_eq k).trans (by rw [semOff, off_sl])) _
@[sl_canon] theorem slotI (hh hs) : (wM.slice (Rect.unit (s := S4x2x512x4096) (k0_off2 k) S1x2x512x4096.size hh) hs).squeeze S2x512x4096 squeezes_S1x2x512x4096_S2x512x4096 = slot (Ring.sl 4 (k.val + 3)) :=
  slot_congr ((k0_off2_eq k).trans (by rw [slotOff, off_sl])) _ _
@[sl_canon] theorem blkI (h : k.val + 3 < 27) (hh hs) : wH.slice (Rect.unit (s := S2x13824x4096) (k0_off3 k) S2x512x4096.size hh) hs = blk (Ring.bk 27 (k.val + 3)) :=
  blk_congr ((k0_off3_eq k).trans (by rw [blkOff, Ring.bk_val h, Nat.mul_add])) _ _
@[sl_canon] theorem semW (hh) : (cc0_scratch4.slice (Rect.unit (s := S4) (k0_off4 k) S1.size hh)).squeeze S_ squeezes_S1_S_ = csm (Ring.sl 4 k.val) :=
  csm_congr ((k0_off4_eq k).trans (by rw [semOff, off_sl])) _
@[sl_canon] theorem slotW (hh hs) : (wM.slice (Rect.unit (s := S4x2x512x4096) (k0_off5 k) S1x2x512x4096.size hh) hs).squeeze S2x512x4096 squeezes_S1x2x512x4096_S2x512x4096 = slot (Ring.sl 4 k.val) :=
  slot_congr ((k0_off5_eq k).trans (by rw [slotOff, off_sl])) _ _
@[sl_canon] theorem blkW (hh hs) : wH.slice (Rect.unit (s := S2x13824x4096) (k0_off6 k) S2x512x4096.size hh) hs = blk (Ring.bk 27 k.val) :=
  blk_congr ((k0_off6_eq k).trans (by rw [blkOff, Ring.bk_val (lt27 k)])) _ _

end Trip

/-! ## The pieces: a block home, a slot held, its semaphore at zero, a slot in flight -/

section Pieces
variable (c : Dev nD) (W : Buf (Elt F) (wH.view.loc (c : Thread nD τ)))

/-- Slot `s`'s semaphore at zero. -/
abbrev cellP (s : Fin 4) : sProp 𝕄 := semVal ((c : Thread nD τ), SemLoc.dma (csm s).sem) 0
/-- Slot `s` held on its elements at contents `f`. -/
abbrev slotP (s : Fin 4) (f : Buf (Elt F) ((slot s).view.loc (c : Thread nD τ))) : sProp 𝕄 :=
  (slot s).view.loc (c : Thread nD τ) ↦[(slot s).view.set]{fullShare} f
/-- Block `b` at home: held on its elements at the weights' contents. -/
abbrev homeP (b : Fin 27) : sProp 𝕄 := (blk b).view.loc (c : Thread nD τ) ↦[(blk b).view.set]{fullShare} W
/-- Block `b`'s words, as a slot receives them. -/
abbrev payload (b : Fin 27) : S2x512x4096.Idx → Elt F .i8 := ReadAs.same.apply ((blk b).view.read (Elt F) W)
/-- What block `b`'s transfer leaves in slot `s` over contents `f`. -/
abbrev landed (s : Fin 4) (b : Fin 27) (f : Buf (Elt F) ((slot s).view.loc (c : Thread nD τ))) : Buf (Elt F) ((slot s).view.loc (c : Thread nD τ)) :=
  (slot s).view.writes (Elt F) f [⟨Rect.whole S2x512x4096, payload c W b⟩]
/-- A block's transfer moves this many units on its semaphore. -/
abbrev NN : ℕ := 131072
/-- Slot `s` in flight with block `b`, started over `f`. -/
abbrev flightP (s : Fin 4) (b : Fin 27) (f : Buf (Elt F) ((slot s).view.loc (c : Thread nD τ))) : sProp 𝕄 :=
  Transfers.Flight countersEmb (c : Thread nD τ) (SemLoc.dma (csm s).sem) () NN iprop(slotP c s (landed c W s b f) ∗ homeP c W b)

/-- Slot `s` free: held at some contents, its semaphore at zero. -/
def freeP (s : Fin 4) : sProp 𝕄 := iprop((∃ f, slotP (F := F) c s f) ∗ cellP c s)
/-- Slot `p % 4` before trip `p`'s turn: in flight with block `p`, or free past the last block. -/
def roleP (p : ℕ) : sProp 𝕄 :=
  Ring.roleAt (NB := 27) (freeP c (Ring.sl 4 p)) (fun b => iprop(∃ f, flightP c W (Ring.sl 4 p) b f)) p

/-- Before trip `p`'s turn its slot is in flight with block `p`, if there is a block `p`. -/
theorem roleP_lt (p : ℕ) (h : p < 27) : roleP c W p = iprop(∃ f, flightP c W (Ring.sl 4 p) (Ring.bk 27 p) f) := Ring.roleAt_of_lt _ _ p h
theorem roleP_le (p : ℕ) (h : 27 ≤ p) : roleP c W p = freeP c (Ring.sl 4 p) := Ring.roleAt_of_le _ _ p h

/-- The blocks at home before trip `k`, block `k + 3` set apart. -/
theorem homes_here (k : ℕ) (hk : k + 3 < 27) :
    bigSep (Ring.homeSet 3 k) (homeP c W) = iprop(homeP c W (Ring.bk 27 (k + 3)) ∗ bigSep ((Ring.homeSet 3 k).erase (Ring.bk 27 (k + 3))) (homeP c W)) := by
  conv_lhs => rw [Ring.homeSet_out 3 k hk, bigSep_insert (Ring.bkL_not_mem_erase 3 k)]
  rfl
/-- The blocks at home after trip `k`, block `k` set apart. -/
theorem homes_next (k : ℕ) (hk : k + 3 < 27) :
    bigSep (Ring.homeSet 3 (k + 1)) (homeP c W) = iprop(homeP c W (Ring.bk 27 k) ∗ bigSep ((Ring.homeSet 3 k).erase (Ring.bk 27 (k + 3))) (homeP c W)) := by
  conv_lhs => rw [Ring.homeSet_succ 3 k hk, bigSep_insert (Ring.bk_not_mem_erase 3 k (by omega) (by decide))]
  rfl
/-- The same in the last three trips, which start no block. -/
theorem homes_tail (k : ℕ) (hk : 27 ≤ k + 3) (h : k < 27) :
    bigSep (Ring.homeSet 3 (k + 1)) (homeP c W) = iprop(homeP c W (Ring.bk 27 k) ∗ bigSep (Ring.homeSet 3 k) (homeP c W)) := by
  conv_lhs => rw [Ring.homeSet_succ_tail 3 k hk h, bigSep_insert (Ring.bk_not_mem_homeSet 3 k h (by decide))]
  rfl

end Pieces

/-! ## One trip -/

section Trip
variable (c : Dev nD) (W : Buf (Elt F) (wH.view.loc (c : Thread nD τ)))
  (x : Memref sig .tc .vmem S64x4096 .bf16) (hx : x.IsWhole) (s : Memref sig .tc .vmem S2x13824 .f32) (hs : s.IsWhole)
  (X : Buf (Elt F) (x.view.loc (c : Thread nD τ))) (S : Buf (Elt F) (s.view.loc (c : Thread nD τ)))
  (y : Memref sig .tc .vmem S64x13824 .bf16) (hy : y.IsWhole)

/-- The result's staging buffer held at `f`. -/
abbrev yP (f : Buf (Elt F) (y.view.loc (c : Thread nD τ))) : sProp 𝕄 := y.view.loc (c : Thread nD τ) ↦[y.view.set]{fullShare} f

/-- The resources before trip `k`, the result's staging buffer at `f`. -/
def resAt (k : ℕ) (f : Buf (Elt F) (y.view.loc (c : Thread nD τ))) : sProp 𝕄 :=
  iprop(yP c y f ∗ (x.view.loc (c : Thread nD τ) ↦[x.view.set]{fullShare} X) ∗ (s.view.loc (c : Thread nD τ) ↦[s.view.set]{fullShare} S)
    ∗ (∃ O, owes (c : Thread nD τ) 0 O) ∗ bigSep (Ring.homeSet 3 k) (homeP c W)
    ∗ roleP c W k ∗ roleP c W (k + 1) ∗ roleP c W (k + 2) ∗ freeP c (Ring.sl 4 (k + 3)))

/-- One trip of the kernel's loop. -/
abbrev tripG (k : Fin k0_t1_loop.trips) : Prog (TpuEff nD τ sig (Elt F) Λ₀ .tc) Unit :=
  k0_t1_body (F := F) xH (Memref.isWhole_whole _) wH (Memref.isWhole_whole _) sH (Memref.isWhole_whole _) y hy
    x hx wM (Memref.isWhole_whole _) s hs cc0_scratch3 cc0_scratch4 cc0_scratch5 k ()

/-- The 512 columns trip `k` stores. -/
abbrev R (k : Fin k0_t1_loop.trips) : Rect S64x13824 := Rect.unit (s := S64x13824) (k0_off11 k) S64x512.size (k0_off11_inb k)

/-- The slot four trips on is the same slot. -/
theorem sl4_add4 (k : ℕ) : Ring.sl 4 (k + 1 + 3) = Ring.sl 4 k := Ring.sl_succ_add 4 k 3 rfl

/-- Trip `k` takes the resources at `k` to those at `k + 1`, storing `w` in its columns. -/
structure TripOk (k : Fin k0_t1_loop.trips) (f : Buf (Elt F) (y.view.loc (c : Thread nD τ))) (w : (R k).shape.Idx → Elt F .bf16) : Prop where
  ok : resAt c W x s X S y k f ⊢ wp frame (wpE (defs₀ (F := F)) 𝒱₀ (c : Thread nD τ) none) Set.univ (tripG x hx s hs y hy k)
    (fun _ => resAt c W x s X S y (k.val + 1) (y.view.writes (Elt F) f [⟨R k, w⟩]))

set_option backward.proofsInPublic true in
/-- One trip that starts a block. -/
def tripRun (k : Fin k0_t1_loop.trips) (hk : k.val + 3 < 27) (f : Buf (Elt F) (y.view.loc (c : Thread nD τ))) :
    { w : (R k).shape.Idx → Elt F .bf16 // TripOk c W x hx s hs X S y hy k f w } := by
  refine ⟨?_, ?run⟩
  case run =>
    have hc := cond_on k hk
    constructor
    unfold resAt
    rw [homes_here c W k.val hk, homes_next c W k.val hk, sl4_add4, roleP_lt c W k.val (by omega), show k.val + 1 + 2 = k.val + 3 from rfl,
      roleP_lt c W (k.val + 3) hk]
    unfold freeP
    iintro ⟨HY, HX, HS, ⟨%O, HW⟩, ⟨Hg, Hrest⟩, ⟨%f0, HF0⟩, HF1, HF2, ⟨%f3, Hs3⟩, Hc3⟩
    dsimp only [tripG]
    sl_unfold [k0_t1_body]
    sl_exec
    sl_step
    isplitl [HY]; · iexact HY
    isplitl [HX]; · iexact HX
    isplitl [HS]; · iexact HS
    isplitl [HW]; · iexists _; iexact HW
    isplitl [HF0_src Hrest]
    · isplitl [HF0_src]; · iexact HF0_src
      iexact Hrest
    isplitl [HF1]; · iexact HF1
    isplitl [HF2]; · iexact HF2
    isplitl [Hc3]; · iexists f3; iexact Hc3
    isplitl [HF0_dst]; · iexists _; iexact HF0_dst
    iexact HF0

set_option backward.proofsInPublic true in
/-- One of the last three trips, which start no block. -/
def tripTail (k : Fin k0_t1_loop.trips) (hk : ¬ k.val + 3 < 27) (f : Buf (Elt F) (y.view.loc (c : Thread nD τ))) :
    { w : (R k).shape.Idx → Elt F .bf16 // TripOk c W x hx s hs X S y hy k f w } := by
  refine ⟨?_, ?run⟩
  case run =>
    have hc := cond_off k hk
    have h27 := lt27 k
    constructor
    unfold resAt
    rw [homes_tail c W k.val (by omega) h27, sl4_add4, roleP_lt c W k.val h27, show k.val + 1 + 2 = k.val + 3 from rfl,
      roleP_le c W (k.val + 3) (by omega)]
    iintro ⟨HY, HX, HS, ⟨%O, HW⟩, Hrest, ⟨%f0, HF0⟩, HF1, HF2, HF3⟩
    dsimp only [tripG]
    sl_unfold [k0_t1_body]
    sl_exec
    sl_step
    isplitl [HY]; · iexact HY
    isplitl [HX]; · iexact HX
    isplitl [HS]; · iexact HS
    isplitl [HW]; · iexists _; iexact HW
    isplitl [HF0_src Hrest]
    · isplitl [HF0_src]; · iexact HF0_src
      iexact Hrest
    isplitl [HF1]; · iexact HF1
    isplitl [HF2]; · iexact HF2
    isplitl [HF3]; · iexact HF3
    unfold freeP
    isplitl [HF0_dst]; · iexists _; iexact HF0_dst
    iexact HF0

/-- The 512 columns trip `k` stores, as either kind of trip finds them. -/
def word (k : Fin k0_t1_loop.trips) (f : Buf (Elt F) (y.view.loc (c : Thread nD τ))) : (R k).shape.Idx → Elt F .bf16 :=
  if h : k.val + 3 < 27 then (tripRun c W x hx s hs X S y hy k h f).1 else (tripTail c W x hx s hs X S y hy k h f).1

/-- The columns of a trip that starts a block are that trip's. -/
theorem word_run (k : Fin k0_t1_loop.trips) (h : k.val + 3 < 27) (f : Buf (Elt F) (y.view.loc (c : Thread nD τ))) :
    word c W x hx s hs X S y hy k f = (tripRun c W x hx s hs X S y hy k h f).1 := dif_pos h
/-- The columns of one of the last three trips are that trip's. -/
theorem word_tail (k : Fin k0_t1_loop.trips) (h : ¬ k.val + 3 < 27) (f : Buf (Elt F) (y.view.loc (c : Thread nD τ))) :
    word c W x hx s hs X S y hy k f = (tripTail c W x hx s hs X S y hy k h f).1 := dif_neg h

/-- Every trip takes the resources at `k` to those at `k + 1`, its columns stored. -/
theorem trip (k : Fin k0_t1_loop.trips) (f : Buf (Elt F) (y.view.loc (c : Thread nD τ))) :
    TripOk c W x hx s hs X S y hy k f (word c W x hx s hs X S y hy k f) := by
  by_cases h : k.val + 3 < 27
  · rw [word_run c W x hx s hs X S y hy k h f]
    exact (tripRun c W x hx s hs X S y hy k h f).2
  · rw [word_tail c W x hx s hs X S y hy k h f]
    exact (tripTail c W x hx s hs X S y hy k h f).2

/-- The result's staging buffer before trip `k`: each trip's columns stored over its contents `f` at the loop's entry. -/
def oAcc (f : Buf (Elt F) (y.view.loc (c : Thread nD τ))) : ℕ → Buf (Elt F) (y.view.loc (c : Thread nD τ))
  | 0 => f
  | k + 1 =>
    if h : k < k0_t1_loop.trips then
      y.view.writes (Elt F) (oAcc f k) [⟨R ⟨k, h⟩, word c W x hx s hs X S y hy ⟨k, h⟩ (oAcc f k)⟩]
    else oAcc f k

set_option warn.classDefReducibility false in
/-- The loop's invariant: the resources before trip `k`, the staging buffer at what the trips before it stored. -/
@[sl_loop] def loopInv (f : Buf (Elt F) (y.view.loc (c : Thread nD τ))) :
    LoopInvTy_k0_t1 (F := F) Unit ℕ (UU nD τ) ℕ 𝒱₀ c none Set.univ xH (Memref.isWhole_whole _) wH (Memref.isWhole_whole _) sH (Memref.isWhole_whole _) y hy
      x hx wM (Memref.isWhole_whole _) s hs cc0_scratch3 cc0_scratch4 cc0_scratch5 where
  inv k _ := resAt c W x s X S y k (oAcc c W x hx s hs X S y hy f k)
  step k _ := by
    have e : oAcc c W x hx s hs X S y hy f (k.val + 1)
        = y.view.writes (Elt F) (oAcc c W x hx s hs X S y hy f k) [⟨R k, word c W x hx s hs X S y hy k (oAcc c W x hx s hs X S y hy f k)⟩] := by
      rw [oAcc, dif_pos k.isLt]
    rw [e]
    iintro H
    iapply (trip c W x hx s hs X S y hy k _).ok
    iexact H

end Trip

end Cert.KernelIdeal.Stream

end
-- ==== Proof.RunIdeal.lean ====
/-
  The kernel's run: its copies of the activations and the scales, the three blocks it starts ahead, its 27 trips, and the
  array it leaves in the result's staging buffer.
-/
module

public import proofs.«01_k».proof.Proof.RingIdeal
public import Idealize.ShloMosaic.Lib.ValueIdx
public import Idealize.ShloMosaic.Lib.WritesUnit

@[expose] public section

noncomputable section

namespace Cert.KernelIdeal.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (W : Buf (Elt F) (wH.view.loc (c : Thread nD τ)))
  (X0 : Buf (Elt F) (xH.view.loc (c : Thread nD τ))) (S0 : Buf (Elt F) (sH.view.loc (c : Thread nD τ)))
  (x : Memref sig .tc .vmem S64x4096 .bf16) (hx : x.IsWhole) (s : Memref sig .tc .vmem S2x13824 .f32) (hs : s.IsWhole)
  (y : Memref sig .tc .vmem S64x13824 .bf16) (hy : y.IsWhole)

/-- The kernel on the given staging and scratch buffers. -/
abbrev bodyG : Prog (TpuEff nD τ sig (Elt F) Λ₀ .tc) PUnit :=
  cc0_int8_glu (F := F) xH (Memref.isWhole_whole _) wH (Memref.isWhole_whole _) sH (Memref.isWhole_whole _) y hy
    x hx wM (Memref.isWhole_whole _) s hs cc0_scratch3 cc0_scratch4 cc0_scratch5

/-- The activations' array in main memory, held whole. -/
abbrev xHP : sProp 𝕄 := xH.view.loc (c : Thread nD τ) ↦[xH.view.set]{fullShare} X0
/-- The scales' array in main memory, held whole. -/
abbrev sHP : sProp 𝕄 := sH.view.loc (c : Thread nD τ) ↦[sH.view.set]{fullShare} S0
/-- The activations' buffer in vector memory, held at `f`. -/
abbrev xP (f : Buf (Elt F) (x.view.loc (c : Thread nD τ))) : sProp 𝕄 := x.view.loc (c : Thread nD τ) ↦[x.view.set]{fullShare} f
/-- The scales' buffer in vector memory, held at `f`. -/
abbrev sP (f : Buf (Elt F) (s.view.loc (c : Thread nD τ))) : sProp 𝕄 := s.view.loc (c : Thread nD τ) ↦[s.view.set]{fullShare} f
/-- The semaphore of the activations' copy, at zero. -/
abbrev xCell : sProp 𝕄 := semVal ((c : Thread nD τ), SemLoc.dma cc0_scratch3.sem) 0
/-- The semaphore of the scales' copy, at zero. -/
abbrev sCell : sProp 𝕄 := semVal ((c : Thread nD τ), SemLoc.dma cc0_scratch5.sem) 0

/-- What the kernel holds besides the result's staging buffer, before and after it runs. -/
abbrev Held : sProp 𝕄 :=
  iprop(xHP c X0 ∗ sHP c S0 ∗ bigSep Finset.univ (homeP c W) ∗ (∃ f, xP c x f) ∗ (∃ f, sP c s f)
    ∗ freeP c 0 ∗ freeP c 1 ∗ freeP c 2 ∗ freeP c 3 ∗ xCell c ∗ sCell c)

/-- All 27 blocks at home are blocks 0, 1 and 2, which the kernel starts first, and the rest. -/
theorem homes_zero :
    bigSep Finset.univ (homeP c W) = iprop(homeP c W 0 ∗ homeP c W 1 ∗ homeP c W 2 ∗ bigSep (Ring.homeSet 3 0) (homeP c W)) := by
  have e : (Finset.univ : Finset (Fin 27)) = insert 0 (insert 1 (insert 2 (Ring.homeSet (NB := 27) 3 0))) := by
    ext b; simp only [Finset.mem_univ, Finset.mem_insert, Ring.mem_homeSet, true_iff, Fin.ext_iff]; have := b.isLt; simp; omega
  rw [e, bigSep_insert (by simp [Ring.mem_homeSet, Fin.ext_iff]), bigSep_insert (by simp [Ring.mem_homeSet, Fin.ext_iff]),
    bigSep_insert (by simp [Ring.mem_homeSet, Fin.ext_iff])]; rfl

/-- The first four trips' slots are 0 to 3, and the first three blocks are 0 to 2. -/
theorem sl4_0 : Ring.sl 4 0 = 0 := Fin.ext (by rfl)
theorem sl4_1 : Ring.sl 4 (0 + 1) = 1 := Fin.ext (by rfl)
theorem sl4_2 : Ring.sl 4 (0 + 2) = 2 := Fin.ext (by rfl)
theorem sl4_3 : Ring.sl 4 (0 + 3) = 3 := Fin.ext (by rfl)
theorem bk27_0 : Ring.bk 27 0 = 0 := Fin.ext (by rfl)
theorem bk27_1 : Ring.bk 27 (0 + 1) = 1 := Fin.ext (by rfl)
theorem bk27_2 : Ring.bk 27 (0 + 2) = 2 := Fin.ext (by rfl)

/-- A free slot is its elements at some contents, and its semaphore at zero. -/
theorem freeP_eq (i : Fin 4) : freeP (F := F) c i = iprop((∃ f, slotP (F := F) c i f) ∗ cellP c i) := rfl

/-- The loop's invariant at `k` is the resources at `k`, with what the trips before `k` stored. -/
theorem loopInv_at (X : Buf (Elt F) (x.view.loc (c : Thread nD τ))) (S : Buf (Elt F) (s.view.loc (c : Thread nD τ)))
    (f : Buf (Elt F) (y.view.loc (c : Thread nD τ))) (k : ℕ) :
    (loopInv c W x hx s hs X S y hy f).inv k () = resAt c W x s X S y k (oAcc c W x hx s hs X S y hy f k) := rfl

/-- After the last trip every block is home and every slot free. -/
theorem resAt_last (X : Buf (Elt F) (x.view.loc (c : Thread nD τ))) (S : Buf (Elt F) (s.view.loc (c : Thread nD τ)))
    (f : Buf (Elt F) (y.view.loc (c : Thread nD τ))) :
    resAt c W x s X S y 27 f
      = iprop(yP c y f ∗ xP c x X ∗ sP c s S ∗ (∃ O, owes (c : Thread nD τ) 0 O) ∗ bigSep Finset.univ (homeP c W)
          ∗ freeP c 3 ∗ freeP c 0 ∗ freeP c 1 ∗ freeP c 2) := by
  unfold resAt
  rw [Ring.homeSet_last 3 27 (le_refl _), roleP_le c W 27 (le_refl _), roleP_le c W (27 + 1) (by omega), roleP_le c W (27 + 2) (by omega),
    show Ring.sl 4 27 = 3 from Fin.ext (by rfl), show Ring.sl 4 (27 + 1) = 0 from Fin.ext (by rfl),
    show Ring.sl 4 (27 + 2) = 1 from Fin.ext (by rfl), show Ring.sl 4 (27 + 3) = 2 from Fin.ext (by rfl)]

/-- After the last trip the invariant gives every block at home, every slot free and the staging buffer at what all trips stored. -/
theorem loopInv_last (X : Buf (Elt F) (x.view.loc (c : Thread nD τ))) (S : Buf (Elt F) (s.view.loc (c : Thread nD τ)))
    (f : Buf (Elt F) (y.view.loc (c : Thread nD τ))) :
    (loopInv c W x hx s hs X S y hy f).inv (Scf.trips k0_t1_loop.lb k0_t1_loop.ub k0_t1_loop.st) ()
      = iprop(yP c y (oAcc c W x hx s hs X S y hy f 27) ∗ xP c x X ∗ sP c s S ∗ (∃ O, owes (c : Thread nD τ) 0 O)
          ∗ bigSep Finset.univ (homeP c W) ∗ freeP c 3 ∗ freeP c 0 ∗ freeP c 1 ∗ freeP c 2) := by
  rw [show Scf.trips k0_t1_loop.lb k0_t1_loop.ub k0_t1_loop.st = 27 from trips, loopInv_at, resAt_last]

/-- The activations as the kernel's copy of them leaves them in vector memory. -/
abbrev xIn : Buf (Elt F) (x.view.loc (c : Thread nD τ)) :=
  x.view.writes (Elt F) x.view.junk [⟨Rect.whole S64x4096, ReadAs.same.apply (xH.view.read (Elt F) X0)⟩]
/-- The scales as the kernel's copy of them leaves them in vector memory. -/
abbrev sIn : Buf (Elt F) (s.view.loc (c : Thread nD τ)) :=
  s.view.writes (Elt F) s.view.junk [⟨Rect.whole S2x13824, ReadAs.same.apply (sH.view.read (Elt F) S0)⟩]

/-- The kernel runs from what it holds and leaves it as it was, the result's staging buffer at what the 27 trips stored. -/
theorem bodyRun (gY : Buf (Elt F) (y.view.loc (c : Thread nD τ))) (O) (Q : PUnit → sProp 𝕄) :
    iprop(yP c y gY ∗ Held c W X0 S0 x s ∗ owes (c : Thread nD τ) 0 O
      ∗ (yP c y (oAcc c W x hx s hs (xIn c X0 x) (sIn c S0 s) y hy gY 27) ∗ Held c W X0 S0 x s ∗ (∃ O, owes (c : Thread nD τ) 0 O) -∗ Q ⟨⟩))
      ⊢ wp frame (wpE (defs₀ (F := F)) 𝒱₀ (c : Thread nD τ) none) Set.univ (bodyG x hx s hs y hy) Q := by
  unfold Held freeP
  rw [homes_zero]
  iintro ⟨HY, ⟨HxH, HsH, ⟨Hh0, Hh1, Hh2, Hh⟩, ⟨%fx, Hx⟩, ⟨%fs, Hs⟩, ⟨⟨%f0, Hs0⟩, Hc0⟩, ⟨⟨%f1, Hs1⟩, Hc1⟩, ⟨⟨%f2, Hs2⟩, Hc2⟩, ⟨Hs3, Hc3⟩, HcX, HcS⟩, HO, HK⟩
  sl_exec
  ihave H0 : roleP c W 0 $$ [Hc0]
  · irw [roleP_lt c W 0 (by omega), sl4_0, bk27_0]; iexists f0; iexact Hc0
  ihave H1 : roleP c W (0 + 1) $$ [Hc1]
  · irw [roleP_lt c W (0 + 1) (by omega), sl4_1, bk27_1]; iexists f1; iexact Hc1
  ihave H2 : roleP c W (0 + 2) $$ [Hc2]
  · irw [roleP_lt c W (0 + 2) (by omega), sl4_2, bk27_2]; iexists f2; iexact Hc2
  ihave H3 : freeP c (Ring.sl 4 (0 + 3)) $$ [Hs3 Hc3]
  · irw [sl4_3]; unfold freeP; isplitl [Hs3]; · iexact Hs3
    iexact Hc3
  ihave HI : resAt c W x s (xIn c X0 x) (sIn c S0 s) y 0 gY $$ [HY Hx Hs HO Hh H0 H1 H2 H3]
  · unfold resAt
    isplitl [HY]; · iexact HY
    isplitl [Hx]; · iexact Hx
    isplitl [Hs]; · iexact Hs
    isplitl [HO]; · iexists _; iexact HO
    isplitl [Hh]; · iexact Hh
    isplitl [H0]; · iexact H0
    isplitl [H1]; · iexact H1
    isplitl [H2]; · iexact H2
    iexact H3
  iapply (exec_loop Idealize.ShloMosaic.frame (wpE (defs₀ (F := F)) 𝒱₀ (c : Thread nD τ) none) Set.univ _ _ _ _ _ _
    (loopInv c W x hx s hs (xIn c X0 x) (sIn c S0 s) y hy gY)) $$ [HI]
  · iapply (entails_of_eq (loopInv_at c W x hx s hs y hy (xIn c X0 x) (sIn c S0 s) gY 0).symm)
    iexact HI
  iintro %acc HI
  ihave HI := (entails_of_eq (loopInv_last c W x hx s hs y hy (xIn c X0 x) (sIn c S0 s) gY)) $$ [HI]
  · iexact HI
  icases HI with ⟨HY, Hx, Hs, HO, Hh, H3, H0, H1, H2⟩
  sl_step
  iapply HK
  isplitl [HY]; · iexact HY
  isplitr [HO]
  · isplitl [HxH]; · iexact HxH
    isplitl [HsH]; · iexact HsH
    isplitl [Hh]; · iapply (entails_of_eq (homes_zero c W)); iexact Hh
    isplitl [Hx]; · iexists _; iexact Hx
    isplitl [Hs]; · iexists _; iexact Hs
    isplitl [H0]; · iapply (entails_of_eq (freeP_eq c 0)); iexact H0
    isplitl [H1]; · iapply (entails_of_eq (freeP_eq c 1)); iexact H1
    isplitl [H2]; · iapply (entails_of_eq (freeP_eq c 2)); iexact H2
    isplitl [H3]; · iapply (entails_of_eq (freeP_eq c 3)); iexact H3
    isplitl [HcX]; · iexact HcX
    iexact HcS
  iexact HO

/-! ## What the trips leave in the result's staging buffer -/

section Result
variable (X : Buf (Elt F) (x.view.loc (c : Thread nD τ))) (S : Buf (Elt F) (s.view.loc (c : Thread nD τ)))

/-- The slot trip `k` loads from: block `k`'s words landed in it. -/
abbrev slotAt (k : Fin k0_t1_loop.trips) : Buf (Elt F) ((slot (Ring.sl 4 k.val)).view.loc (c : Thread nD τ)) :=
  landed c W (Ring.sl 4 k.val) (Ring.bk 27 k.val) (slot (Ring.sl 4 k.val)).view.junk

/-- The words trip `k` stores, from what it loads: the activations, two halves of the weight block, two rows of scales. -/
def pay (k : Fin k0_t1_loop.trips) : S64x512.Idx → Elt F .bf16 :=
  k0_pay1
    (k0_pay2
      (View.readAt (Elt F) wM.view (Rect.unit (s := S4x2x512x4096) (k0_off7 k) S1x1x512x4096.size (k0_off7_inb k)).toLoadRect (slotAt c W k))
      (View.readAt (Elt F) x.view (Rect.unit (s := S64x4096) ![0, 0] S64x4096.size inb_S64x4096_S64x4096_0_0).toLoadRect X)
      (View.readAt (Elt F) s.view (Rect.unit (s := S2x13824) (k0_off8 k) S1x512.size (k0_off8_inb k)).toLoadRect S))
    (k0_pay3
      (View.readAt (Elt F) wM.view (Rect.unit (s := S4x2x512x4096) (k0_off9 k) S1x1x512x4096.size (k0_off9_inb k)).toLoadRect (slotAt c W k)))
    (View.readAt (Elt F) x.view (Rect.unit (s := S64x4096) ![0, 0] S64x4096.size inb_S64x4096_S64x4096_0_0).toLoadRect X)
    (View.readAt (Elt F) s.view (Rect.unit (s := S2x13824) (k0_off10 k) S1x512.size (k0_off10_inb k)).toLoadRect S)

/-- Whatever the staging buffer held, trip `k` stores `pay k`. -/
theorem word_eq (k : Fin k0_t1_loop.trips) (f : Buf (Elt F) (y.view.loc (c : Thread nD τ))) :
    word c W x hx s hs X S y hy k f = pay c W x s X S k := by
  by_cases h : k.val + 3 < 27
  · rw [word_run c W x hx s hs X S y hy k h f]
    dsimp only [tripRun]
    unfold tripRun.sl.r tripRun.sl.r_1 tripRun.sl.v37 tripRun.sl.v48
    rfl
  · rw [word_tail c W x hx s hs X S y hy k h f]
    dsimp only [tripTail]
    unfold tripTail.sl.r tripTail.sl.r_1 tripTail.sl.v37 tripTail.sl.v48
    rfl

/-- Every column lies in the block of one of the trips. -/
theorem col_lt (i : S64x13824.Idx) : (i 1).val / 512 < k0_t1_loop.trips := by
  have h : (i 1).val < 13824 := (i 1).isLt
  have := trips; omega

/-- The whole result: column `o` is column `o % 512` of what trip `o / 512` stores. -/
def outB : S64x13824.Idx → Elt F .bf16 := fun i =>
  pay c W x s X S ⟨(i 1).val / 512, col_lt i⟩ (ValueIdx.ix2 (i 0) ⟨(i 1).val % 512, Nat.mod_lt _ (by decide)⟩)

/-- Before trip `n` the staging buffer's first `512 n` columns are the result's. -/
theorem oAcc_read (f : Buf (Elt F) (y.view.loc (c : Thread nD τ))) (n : ℕ) (hn : n ≤ 27) (i : S64x13824.Idx) (hi : (i 1).val < 512 * n) :
    y.view.read (Elt F) (oAcc c W x hx s hs X S y hy f n) i = outB c W x s X S i := by
  induction n with
  | zero => omega
  | succ n ih =>
    have hlt : n < k0_t1_loop.trips := by have := trips; omega
    rw [oAcc, dif_pos hlt, word_eq]
    by_cases h : (i 1).val < 512 * n
    · rw [← ih (by omega) h]
      exact View.read_writes_cons_unit_of_not_mem y.view _ (k0_off11_inb ⟨n, hlt⟩) _ [] i (k0_off11_eq ⟨n, hlt⟩) 1 (Or.inl h)
    · have e : (i 1).val / 512 = n := by omega
      refine (View.read_writes_cons_unit_of_mem y.view _ (k0_off11_inb ⟨n, hlt⟩) _ [] i
        (ValueIdx.ix2 (i 0) ⟨(i 1).val % 512, Nat.mod_lt _ (by decide)⟩) (k0_off11_eq ⟨n, hlt⟩) (fun a => ?_)).trans ?_
      · match a with
        | ⟨0, _⟩ => show (i 0).val = 0 + (i 0).val; omega
        | ⟨1, _⟩ => show (i 1).val = 512 * n + (i 1).val % 512; omega
      · unfold outB
        exact congrArg (fun k => pay c W x s X S k (ValueIdx.ix2 (i 0) ⟨(i 1).val % 512, Nat.mod_lt _ (by decide)⟩))
          (show (⟨n, hlt⟩ : Fin k0_t1_loop.trips) = ⟨(i 1).val / 512, col_lt i⟩ from Fin.ext e.symm)

/-- After the last trip the staging buffer reads the result. -/
theorem oAcc_last (f : Buf (Elt F) (y.view.loc (c : Thread nD τ))) :
    y.view.read (Elt F) (oAcc c W x hx s hs X S y hy f 27) = outB c W x s X S :=
  funext fun i => oAcc_read c W x hx s hs y hy X S f 27 (le_refl _) i (by have h : (i 1).val < 13824 := (i 1).isLt; omega)

end Result

end Body
end Cert.KernelIdeal.Stream
end
-- ==== Proof.LaunchIdeal.lean ====
/-
  The kernel's launch: its buffers and semaphores split into the pieces its body works on, the body's run at the one
  point, and the whole program's run around it.
-/
module

public import proofs.«01_k».proof.Proof.RunIdeal

@[expose] public section

noncomputable section

namespace Cert.KernelIdeal.Stream

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores, the weight blocks and the ring's slots as sets of elements -/

/-- The six semaphores of the kernel's own transfers: the activations', the four slots', the scales'. -/
abbrev osem : Fin 6 → SemLoc sig :=
  ![.dma cc0_scratch3.sem, .dma (csm 0).sem, .dma (csm 1).sem, .dma (csm 2).sem, .dma (csm 3).sem, .dma cc0_scratch5.sem]
/-- They are six different semaphores, none of them the pipeline's. -/
theorem ownSemFacts : Pipeline.OwnSemFacts spec0 osem := by decide

/-- Block `b`'s elements of the weights. -/
abbrev B27 (b : Fin 27) : Finset S2x13824x4096.Idx := (Rect.unit (s := S2x13824x4096) (blkOff b) S2x512x4096.size (blkOff_inb b)).set
/-- Slot `s`'s elements of the ring's buffer. -/
abbrev L4 (s : Fin 4) : Finset S4x2x512x4096.Idx := (Rect.unit (s := S4x2x512x4096) (slotOff s) S1x2x512x4096.size (slotOff_inb s)).set

omit [FloatOps F] in
/-- The kernel's slice of the weights at block `b` covers exactly the block's elements. -/
theorem blk_set (b : Fin 27) : (blk b : Memref sig .tc .hbm _ _).view.set = B27 b := View.set_slice_whole _ _
omit [FloatOps F] in
/-- The kernel's slice of the ring's buffer at slot `s` covers exactly the slot's elements. -/
theorem slot_set (s : Fin 4) : (slot s : Memref sig .tc .vmem _ _).view.set = L4 s := (View.set_reshape _ _).trans (View.set_slice_whole _ _)

/-- Block `b` holds the rows `512 b … 512 b + 511` of both matrices. -/
theorem mem_B27 (b : Fin 27) (i : S2x13824x4096.Idx) : i ∈ B27 b ↔ 512 * b.val ≤ (i 1).val ∧ (i 1).val < 512 * b.val + 512 := by
  rw [Rect.mem_set_unit]
  have h0 : (i 0).val < 2 := (i 0).isLt
  have h2 : (i 2).val < 4096 := (i 2).isLt
  constructor
  · intro H; exact H 1
  · intro H a; fin_cases a
    · show 0 ≤ (i 0).val ∧ (i 0).val < 0 + 2; omega
    · exact H
    · show 0 ≤ (i 2).val ∧ (i 2).val < 0 + 4096; omega
/-- Slot `s` is the buffer's leading index `s`. -/
theorem mem_L4 (s : Fin 4) (i : S4x2x512x4096.Idx) : i ∈ L4 s ↔ (i 0).val = s.val := by
  rw [Rect.mem_set_unit]
  have h1 : (i 1).val < 2 := (i 1).isLt
  have h2 : (i 2).val < 512 := (i 2).isLt
  have h3 : (i 3).val < 4096 := (i 3).isLt
  constructor
  · intro H; have a0 : s.val ≤ (i 0).val ∧ (i 0).val < s.val + 1 := H 0; omega
  · intro H a; fin_cases a
    · show s.val ≤ (i 0).val ∧ (i 0).val < s.val + 1; omega
    · show 0 ≤ (i 1).val ∧ (i 1).val < 0 + 2; omega
    · show 0 ≤ (i 2).val ∧ (i 2).val < 0 + 512; omega
    · show 0 ≤ (i 3).val ∧ (i 3).val < 0 + 4096; omega

/-- Different blocks share no element. -/
theorem B27_disjoint : ∀ b b' : Fin 27, b ≠ b' → Disjoint (B27 b) (B27 b') := by
  intro b b' hne; rw [Finset.disjoint_left]; intro i hi hi'; rw [mem_B27] at hi hi'; exact hne (Fin.ext (by omega))
/-- The blocks together are all of the weights. -/
theorem B27_cover : (Finset.univ : Finset (Fin 27)).biUnion B27 = Finset.univ := by
  ext i; simp only [Finset.mem_biUnion, Finset.mem_univ, true_and, iff_true]
  have h : (i 1).val < 13824 := (i 1).isLt
  exact ⟨⟨(i 1).val / 512, by omega⟩, by rw [mem_B27]; dsimp only; omega⟩
/-- Different slots share no element. -/
theorem L4_disjoint : ∀ s s' : Fin 4, s ≠ s' → Disjoint (L4 s) (L4 s') := by
  intro s s' hne; rw [Finset.disjoint_left]; intro i hi hi'; rw [mem_L4] at hi hi'; exact hne (Fin.ext (hi.symm.trans hi'))
/-- The slots together are the whole ring's buffer. -/
theorem L4_cover : (Finset.univ : Finset (Fin 4)).biUnion L4 = Finset.univ := by
  ext i; simp only [Finset.mem_biUnion, Finset.mem_univ, true_and, iff_true]; exact ⟨(i 0).cast (by decide), by rw [mem_L4]; rfl⟩

omit [FloatOps F] in
/-- A resource for each of four slots, written out. -/
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The weights whole are their 27 blocks at home. -/
theorem w_eq (c : Dev nD) (W : Buf (Elt F) ((c : Thread nD τ).loc main_arg1)) :
    (((c : Thread nD τ).loc main_arg1) ↦{fullShare} W : sProp 𝕄) = bigSep Finset.univ (homeP c W) := by
  rw [Ring.pointsTo_blocks (ℓ := (c : Thread nD τ).loc main_arg1) B27 B27_disjoint B27_cover]
  exact bigSep_congr fun b _ => by rw [← blk_set]; rfl

omit [FloatOps F] in
/-- A slot held through its view is its elements of the ring's buffer held. -/
theorem slotP_eq (c : Dev nD) (s : Fin 4) (f) : slotP c s f = (((c : Thread nD τ).loc cc0_scratch1) ↦[L4 s]{fullShare} f : sProp 𝕄) :=
  congrArg (fun S => (_ ↦[S]{fullShare} f : sProp 𝕄)) (slot_set s)

/-- The ring's buffer whole is its four slots, -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) L4 L4_disjoint L4_cover f).trans (bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
/-- and back. -/
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) L4 L4_disjoint L4_cover f0)
  irw [bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- The kernel's own semaphores at zero, one by one. -/
theorem ownSems0_eq (c : Dev nD) : (Pipeline.ownSems0 (Ix := Unit) (Name := ℕ) (U := UU nD τ) (Lvl := ℕ) (Val := Elt F) (τ := τ) osem c : sProp 𝕄)
    = iprop(xCell c ∗ cellP c 0 ∗ cellP c 1 ∗ cellP c 2 ∗ cellP c 3 ∗ sCell c) :=
  Pipeline.ownSems0_eq_of_list c osem [0, 1, 2, 3, 4, 5] (by decide) (by decide)

/-- The three arrays the kernel reads in place: the reshaped activations, the weights, the scales. -/
abbrev HH : Finset (Ref sig .tc) := {main_v0, main_arg1, main_arg2}
/-- None of the three is an array of the pipeline's window. -/
theorem HH_rest : HH ⊆ Pipeline.restRefs sig spec0 := by decide

omit [FloatOps F] in
/-- A resource for each of the three arrays, written out. -/
theorem bigSep_HH (Φ : Ref sig .tc → sProp 𝕄) : bigSep HH Φ = iprop(Φ main_v0 ∗ Φ main_arg1 ∗ Φ main_arg2) := by
  rw [bigSep_insert (by decide), bigSep_insert (by decide), bigSep_singleton]; rfl

/-! ## The proof data of the one point -/

variable (m : (ℓ : Loc nD τ sig) → Buf (Elt F) ℓ) (ρ : Dev nD → PrngReg)

/-- The result's staging buffer at the one point. -/
abbrev st (t : Fin cfg0.N) : Memref sig .tc .vmem S64x13824 .bf16 := win0_0.stage (cfg0.slots t 0)
abbrev hst (t : Fin cfg0.N) : (st t).IsWhole := hstage0_0 0

/-- What the kernel holds besides the staging buffer, before and after the point, with the generator register. -/
def Φ (c : Dev nD) : sProp 𝕄 :=
  iprop(Held c (V m c main_arg1) (V m c main_v0) (V m c main_arg2) xM sM ∗ ∃ r, prngReg c r)

/-- The result from the region's entry contents of the activations, the weights and the scales. -/
def outC (c : Dev nD) : S64x13824.Idx → Elt F .bf16 :=
  outB c (V m c main_arg1) xM sM (xIn c (V m c main_v0) xM) (sIn c (V m c main_arg2) sM)

/-- What the one window's array and staging buffer hold, before and after the point. -/
def dats (_ : Fin 1) (c : Dev nD) : Dat τ (Elt F) Unit ℕ (UU nD τ) ℕ cfg0 c where
  A w := V m c (Pipeline.arrRef spec0 w)
  after w _ := match w with
    | ⟨0, _⟩ => outC m c
  Φ _ := Φ m c
  q _ := fullShare
  owed _ := 0

/-- After the point the staging buffer holds the result. -/
theorem after_w0 (c : Dev nD) (t : Fin cfg0.N) : (dats m 0 c).after 0 t = outC m c := by dsimp only [dats]

/-- The body the pipeline calls is the kernel on its staging and scratch buffers. -/
theorem defs_tc : (defs₀ (F := F)) .tc cfg0.body
    = fun a => bodyG xM (Memref.isWhole_whole _) sM (Memref.isWhole_whole _) (win0_0.stage (a.2 0)) (hstage0_0 0) := rfl
/-- So is the call at the one point. -/
theorem prog_eq (t : Fin cfg0.N) : (defs₀ (F := F)) .tc cfg0.body (cfg0.bodyArgs t (cfg0.slots t))
    = bodyG xM (Memref.isWhole_whole _) sM (Memref.isWhole_whole _) (st t) (hst t) :=
  (congrFun defs_tc _).trans rfl

set_option backward.isDefEq.respectTransparency.types false in
/-- The kernel's body at the one point leaves the result in the staging buffer and everything else as it was. -/
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HH, HR⟩, ⟨%O, -, HO⟩, ⟨%d, %g, -, HY⟩⟩
  sl_rw [prog_eq t]
  iapply (bodyRun c (V m c main_arg1) (V m c main_v0) (V m c main_arg2) xM (Memref.isWhole_whole _) sM (Memref.isWhole_whole _) (st t) (hst t) g O)
  isplitl [HY]; · iexact HY
  isplitl [HH]; · iexact HH
  isplitl [HO]; · iexact HO
  iintro ⟨HY, HH, ⟨%O', HO⟩⟩
  isplitl [HH HR]
  · isplitl [HH]; · iexact HH
    iexact HR
  isplitl [HO]
  · iexists O'; isplitr; · ipureintro; exact fun _ _ => Or.inl trivial
    iexact HO
  iexists _; isplitr
  · ipureintro
    exact oAcc_last c (V m c main_arg1) xM (Memref.isWhole_whole _) sM (Memref.isWhole_whole _) (st t) (hst t) (xIn c (V m c main_v0) xM) (sIn c (V m c main_arg2) sM) g
  iexact HY

/-! ## Entering and leaving the point -/

omit [FloatOps F] in
/-- A buffer held through its whole memref is the buffer held. -/
theorem whole_eq (c : Dev nD) (b : Ref sig .tc) (f : Buf (Elt F) ((c : Thread nD τ).loc b)) :
    ((View.whole b).loc (c : Thread nD τ) ↦[(View.whole b).set]{fullShare} f : sProp 𝕄) = (((c : Thread nD τ).loc b) ↦{fullShare} f) :=
  congrArg (fun S => (((c : Thread nD τ).loc b) ↦[S]{fullShare} f : sProp 𝕄)) (View.set_whole b)

/-- The buffers and semaphores the launch hands over are the pieces the kernel works on, -/
theorem enter (c : Dev nD) :
    Pipeline.ΦD osem spec0 HH (fun c b => V m c b) c ⊢ (Φ m c : sProp 𝕄) := by
  rw [Pipeline.ΦD_eq, scopedRest0_eq, ownSems0_eq, bigSep_HH, w_eq]
  unfold Φ Held
  simp only [freeP_eq]
  iintro ⟨⟨⟨%fx, Hx⟩, HB, ⟨%fs, Hs⟩⟩, HR, ⟨HcX, Hc0, Hc1, Hc2, Hc3, HcS⟩, HX, HW, HS⟩
  ihave HB := (buf_split c) $$ HB
  icases HB with ⟨H0, H1, H2, H3⟩
  isplitr [HR]
  · isplitl [HX]; · iapply (entails_of_eq (whole_eq c main_v0 (V m c main_v0)).symm); iexact HX
    isplitl [HS]; · iapply (entails_of_eq (whole_eq c main_arg2 (V m c main_arg2)).symm); iexact HS
    isplitl [HW]; · iexact HW
    isplitl [Hx]; · iexists fx; iapply (entails_of_eq (whole_eq c cc0_scratch0 fx).symm); iexact Hx
    isplitl [Hs]; · iexists fs; iapply (entails_of_eq (whole_eq c cc0_scratch2 fs).symm); iexact Hs
    isplitl [H0 Hc0]
    · isplitl [H0]; · iexact H0
      iexact Hc0
    isplitl [H1 Hc1]
    · isplitl [H1]; · iexact H1
      iexact Hc1
    isplitl [H2 Hc2]
    · isplitl [H2]; · iexact H2
      iexact Hc2
    isplitl [H3 Hc3]
    · isplitl [H3]; · iexact H3
      iexact Hc3
    isplitl [HcX]; · iexact HcX
    iexact HcS
  iexact HR

/-- and back. -/
theorem leave (c : Dev nD) :
    (Φ m c : sProp 𝕄) ⊢ Pipeline.ΦD osem spec0 HH (fun c b => V m c b) c := by
  rw [Pipeline.ΦD_eq, scopedRest0_eq, ownSems0_eq, bigSep_HH, w_eq]
  unfold Φ Held
  simp only [freeP_eq]
  iintro ⟨⟨HX, HS, HW, ⟨%fx, Hx⟩, ⟨%fs, Hs⟩, ⟨H0, Hc0⟩, ⟨H1, Hc1⟩, ⟨H2, Hc2⟩, ⟨H3, Hc3⟩, HcX, HcS⟩, HR⟩
  isplitl [Hx Hs H0 H1 H2 H3]
  · isplitl [Hx]; · iexists fx; iapply (entails_of_eq (whole_eq c cc0_scratch0 fx)); iexact Hx
    isplitr [Hs]
    · iapply (buf_join c)
      isplitl [H0]; · iexact H0
      isplitl [H1]; · iexact H1
      isplitl [H2]; · iexact H2
      iexact H3
    iexists fs; iapply (entails_of_eq (whole_eq c cc0_scratch2 fs)); iexact Hs
  isplitl [HR]; · iexact HR
  isplitl [HcX Hc0 Hc1 Hc2 Hc3 HcS]
  · isplitl [HcX]; · iexact HcX
    isplitl [Hc0]; · iexact Hc0
    isplitl [Hc1]; · iexact Hc1
    isplitl [Hc2]; · iexact Hc2
    isplitl [Hc3]; · iexact Hc3
    iexact HcS
  isplitl [HX]; · iapply (entails_of_eq (whole_eq c main_v0 (V m c main_v0))); iexact HX
  isplitl [HW]; · iexact HW
  iapply (entails_of_eq (whole_eq c main_arg2 (V m c main_arg2))); iexact HS

/-! ## The whole program's run -/

set_option maxHeartbeats 800000 in
/-- @main is its first line, the kernel, then its last line. -/
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The last line touches none of the arrays the kernel reads in place. -/
theorem sfx_sub : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [Finset.mem_insert, Finset.mem_singleton] at hb
  simp only [StableHlo.reshape_bufs, Finset.mem_insert, Finset.mem_singleton, not_or]
  rcases hb with rfl | rfl | rfl <;> exact ⟨StableHlo.devRef_ne_of_ne (by decide), StableHlo.devRef_ne_of_ne (by decide)⟩

/-- The program runs; its buffers end at the contents the last line leaves over the kernel's result, and every semaphore
    at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = (fun _ => 0)) :=
  Pipeline.θ_run_frame_dma_around cfgs (dats m) 0 launch0 osem defs₀ 𝒱₀ ownSemFacts HH HH_rest m ρ main
    (fun c => (body_obligation m c).loose) (fun c => (dats m 0 c).share_full fun _ => rfl) (fun _ _ => rfl)
    (V0 m) [hostOps1] sfx_sub sfx_fresh sfx_keeps (hmain m) (fun _ _ => rfl) (enter m) (leave m)
    _ (fun _ h => h)

/-! ## The arguments are unchanged -/

/-- The program leaves argument 0 as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The program leaves argument 1 as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The program leaves argument 2 as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The program runs, leaves its three arguments as launched and ends with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (W_main_arg0 m c),
      ((h.1 c).2 main_arg1 (Pipeline.mem_restRefs_of main_arg1 (by decide) (by decide))).trans (W_main_arg1 m c),
      ((h.1 c).2 main_arg2 (Pipeline.mem_restRefs_of main_arg2 (by decide) (by decide))).trans (W_main_arg2 m c)⟩, h.2⟩) (run_main m ρ)

end Cert.KernelIdeal.Stream

end
-- ==== Proof.KernelValue.lean ====
/-
  What the idealized kernel leaves in its result: the gated linear unit of its arguments.

  Each of the loop's 27 trips stores 512 output columns, the gated linear unit at those columns (`out_at`); the staging
  buffer so filled is written back whole (`final`), and the reshape after the kernel keeps every element.
-/
module

public import proofs.«01_k».proof.Proof.Block
public import proofs.«01_k».proof.Proof.LaunchIdeal
public import Idealize.ShloMosaic.Lib.Pipeline.Value
public import Idealize.ShloMosaic.Lib.StableHlo.Run

@[expose] public section

noncomputable section

open scoped BigOperators
open Idealize.ShloMosaic Idealize.ShloMosaic.TcCoe Idealize.ShloMosaic.ValueIdx Idealize.SL.Sem
open Idealize.ShloMosaic.Pipeline (Dat)

namespace Cert.KernelIdeal.RefValue

open Cert.KernelIdeal Cert.KernelIdeal.Gen Cert.KernelIdeal.Stream Cert.Glu Cert.ReferenceIdeal.RefValue

variable (m : (ℓ : Loc nD τ sig) → Buf (Elt Ideal) ℓ) (ρ : Dev nD → PrngReg)

/-- Device `c`'s three argument arrays. -/
abbrev AX (c : Dev nD) : FVec Ideal S64x1x4096 .bf16 := m ((c : Thread nD τ).loc main_arg0)
abbrev AW (c : Dev nD) : IVec S2x13824x4096 8 := m ((c : Thread nD τ).loc main_arg1)
abbrev AS (c : Dev nD) : FVec Ideal S2x13824 .f32 := m ((c : Thread nD τ).loc main_arg2)

/-- The kernel's output array: the gated linear unit, its rows not yet reshaped. -/
def rows (c : Dev nD) : FVec Ideal S64x13824 .bf16 := fun i =>
  elem (fun b k => AX m c (ix3 b 0 k)) (fun n o k => AW m c (ix3 n o k)) (fun n o => AS m c (ix2 n o)) (i 0) (i 1)

/-- The activations as the kernel finds them: the argument with its unit axis dropped. -/
theorem V_x (c : Dev nD) : V m c main_v0 = shapeCast S64x4096 (AX m c) shapeCasts_S64x1x4096_S64x4096 := by
  unfold V V0
  simp only [hostOps0, List.flatten_cons, List.flatten_nil, List.append_nil]
  after_results_simp <;> rfl

/-- Row `b` of the activations as the kernel finds them is row `b` of the argument. -/
theorem x_at (c : Dev nD) (b : Fin 64) (k : Fin 4096) : V m c main_v0 (ix2 b k) = AX m c (ix3 b 0 k) := by
  rw [V_x]
  exact shapeCast_apply (AX m c) shapeCasts_S64x1x4096_S64x4096 (ix2 b k) (ix3 b 0 k) (by
    rw [Shape.rowMajor_val_three, Shape.rowMajor_val_two]
    show (b.val * 1 + 0) * 4096 + k.val = b.val * 4096 + k.val
    omega)

/-- Column `j` of block `t` is column `512 t + j` of the whole. -/
def col (t : Fin 27) (j : Fin 512) : Fin 13824 := ⟨512 * t.val + j.val, by have := t.isLt; omega⟩

/-- Block `t` of the weights at (n, j, k) is the argument at (n, 512 t + j, k). -/
theorem block_at (c : Dev nD) (A : IVec S2x13824x4096 8) (t : Fin 27) (n : Fin 2) (j : Fin 512) (k : Fin 4096) :
    payload (F := Ideal) c A t (ix3 n j k) = A (ix3 n (col t j) k) :=
  congrArg A (funext fun a => Fin.ext (by
    match a with
    | ⟨0, _⟩ => show 0 + 1 * n.val = n.val; omega
    | ⟨1, _⟩ => show 512 * t.val + 1 * j.val = 512 * t.val + j.val; omega
    | ⟨2, _⟩ => show 0 + 1 * k.val = k.val; omega))

/-- A read of the ring buffer at one slot and one range of rows. -/
theorem wread (f : IVec S4x2x512x4096 8) (size : Fin 4 → Nat) (off : Fin 4 → Nat) (inb)
    (i : (Rect.unit (s := S4x2x512x4096) off size inb).toLoadRect.shape.Idx) (i' : S4x2x512x4096.Idx) (h : ∀ a, off a + (i a).val = (i' a).val) :
    View.readAt (Elt Ideal) wM.view (Rect.unit (s := S4x2x512x4096) off size inb).toLoadRect f i = f i' :=
  congrArg f (funext fun a => Fin.ext (by
    show off a + 1 * (i a).val = (i' a).val
    rw [Nat.one_mul]; exact h a))

/-- A read of the staged activations. -/
theorem xread (f : FVec Ideal S64x4096 .bf16) (off : Fin 2 → Nat) (inb)
    (i : S64x4096.Idx) (i' : S64x4096.Idx) (h : ∀ a, off a + (i a).val = (i' a).val) :
    View.readAt (Elt Ideal) xM.view (Rect.unit (s := S64x4096) off S64x4096.size inb).toLoadRect f i = xM.view.read (Elt Ideal) f i' :=
  congrArg (xM.view.read (Elt Ideal) f) (funext fun a => Fin.ext (by
    show off a + 1 * (i a).val = (i' a).val
    rw [Nat.one_mul]; exact h a))

/-- The staged activations are the argument's. -/
theorem xIn_read (c : Dev nD) (x : FVec Ideal S64x4096 .bf16) (i : S64x4096.Idx) : xM.view.read (Elt Ideal) (xIn (F := Ideal) c x xM) i = x i := by
  have h := View.read_writes_cons_emb xM.view (xM.view.junk (Val := Elt Ideal)) (Rect.whole S64x4096) (ReadAs.same.apply (xH.view.read (Elt Ideal) x)) [] i
  rw [Rect.emb_whole_apply] at h
  exact h

/-- A read of the staged scales. -/
theorem sread (f : FVec Ideal S2x13824 .f32) (off : Fin 2 → Nat) (inb)
    (i : S1x512.Idx) (i' : S2x13824.Idx) (h : ∀ a : Fin 2, off a + (i a).val = (i' a).val) :
    View.readAt (Elt Ideal) sM.view (Rect.unit (s := S2x13824) off S1x512.size inb).toLoadRect f i = sM.view.read (Elt Ideal) f i' :=
  congrArg (sM.view.read (Elt Ideal) f) (funext fun a => Fin.ext (by
    show off a + 1 * (i a).val = (i' a).val
    rw [Nat.one_mul]; exact h a))

/-- The staged scales are the argument's. -/
theorem sIn_read (c : Dev nD) (x : FVec Ideal S2x13824 .f32) (i : S2x13824.Idx) : sM.view.read (Elt Ideal) (sIn (F := Ideal) c x sM) i = x i := by
  have h := View.read_writes_cons_emb sM.view (sM.view.junk (Val := Elt Ideal)) (Rect.whole S2x13824) (ReadAs.same.apply (sH.view.read (Elt Ideal) x)) [] i
  rw [Rect.emb_whole_apply] at h
  exact h

/-- A slot of four holding one weight block has the block's element count. -/
theorem slot_casts : S1x2x512x4096.ShapeCasts S2x512x4096 := by decide

/-- What a slot's view reads at (n, j, k) is the ring buffer's element (s, n, j, k). -/
theorem slot_read (f : IVec S4x2x512x4096 8) (s : Fin 4) (n : Fin 2) (j : Fin 512) (k : Fin 4096) :
    (slot s).view.read (Elt Ideal) f (ix3 n j k) = f (ix4 s n j k) := by
  have e : (slot s).view.read (Elt Ideal) f
      = shapeCast S2x512x4096 (wM.view.readAt (Elt Ideal) (Rect.unit (s := S4x2x512x4096) (slotOff s) S1x2x512x4096.size (slotOff_inb s)).toLoadRect f) slot_casts := rfl
  rw [e]
  refine (shapeCast_apply _ slot_casts (ix3 n j k) (ix4 (0 : Fin 1) n j k) (by
      rw [Shape.rowMajor_val_four, Shape.rowMajor_val_three]
      show ((0 * 2 + n.val) * 512 + j.val) * 4096 + k.val = (n.val * 512 + j.val) * 4096 + k.val
      omega)).trans (wread f _ _ _ _ _ fun a => ?_)
  match a with
  | ⟨0, _⟩ => show s.val + 0 = s.val; omega
  | ⟨1, _⟩ => show 0 + n.val = n.val; omega
  | ⟨2, _⟩ => show 0 + j.val = j.val; omega
  | ⟨3, _⟩ => show 0 + k.val = k.val; omega

/-- A slot with a block landed in it holds, at (n, j, k), the block's code at (n, j, k). -/
theorem landed_at (c : Dev nD) (A : IVec S2x13824x4096 8) (s : Fin 4) (t : Fin 27) (f : Buf (Elt Ideal) ((slot s).view.loc (c : Thread nD τ)))
    (n : Fin 2) (j : Fin 512) (k : Fin 4096) :
    landed (F := Ideal) c A s t f (ix4 s n j k) = A (ix3 n (col t j) k) := by
  have h := View.read_writes_cons_emb (slot s).view f (Rect.whole S2x512x4096) (payload (F := Ideal) c A t) [] (ix3 n j k)
  rw [Rect.emb_whole_apply] at h
  exact (slot_read (landed (F := Ideal) c A s t f) s n j k).symm.trans (h.trans (block_at c A t n j k))

/-- The activations as the kernel's trips load them. -/
theorem ldx (c : Dev nD) (x : FVec Ideal S64x4096 .bf16) (b : Fin 64) (k : Fin 4096) :
    View.readAt (Elt Ideal) xM.view (Rect.unit (s := S64x4096) ![0, 0] S64x4096.size inb_S64x4096_S64x4096_0_0).toLoadRect (xIn (F := Ideal) c x xM) (ix2 b k)
      = x (ix2 b k) := by
  refine (xread (xIn (F := Ideal) c x xM) _ _ (ix2 b k) (ix2 b k) fun a => ?_).trans (xIn_read c x _)
  match a with
  | ⟨0, _⟩ => show 0 + b.val = b.val; omega
  | ⟨1, _⟩ => show 0 + k.val = k.val; omega

/-- A row of the scales as trip `t` loads it. -/
theorem lds (c : Dev nD) (x : FVec Ideal S2x13824 .f32) (t : Fin 27) (n : Fin 2) (off : Fin 2 → Nat) (inb) (e : off = ![n.val, 512 * t.val]) (j : Fin 512) :
    View.readAt (Elt Ideal) sM.view (Rect.unit (s := S2x13824) off S1x512.size inb).toLoadRect (sIn (F := Ideal) c x sM) (ix2 0 j)
      = x (ix2 n (col t j)) := by
  subst e
  refine (sread (sIn (F := Ideal) c x sM) _ _ (ix2 0 j) (ix2 n (col t j)) fun a => ?_).trans (sIn_read c x _)
  match a with
  | ⟨0, _⟩ => show n.val + 0 = n.val; omega
  | ⟨1, _⟩ => show 512 * t.val + j.val = 512 * t.val + j.val; rfl

/-- One half of the weight block as trip `t` loads it. -/
theorem ldw (c : Dev nD) (A : IVec S2x13824x4096 8) (t : Fin k0_t1_loop.trips) (n : Fin 2) (off : Fin 4 → Nat) (inb) (e : off = ![t.val % 4, n.val, 0, 0])
    (j : Fin 512) (k : Fin 4096) :
    View.readAt (Elt Ideal) wM.view (Rect.unit (s := S4x2x512x4096) off S1x1x512x4096.size inb).toLoadRect (slotAt (F := Ideal) c A t) (ix4 0 0 j k)
      = A (ix3 n (col (Ring.bk 27 t.val) j) k) := by
  subst e
  refine (wread (slotAt (F := Ideal) c A t) S1x1x512x4096.size _ _ (ix4 (0 : Fin 1) (0 : Fin 1) j k) (ix4 (Ring.sl 4 t.val) n j k) fun a => ?_).trans
    (landed_at c A (Ring.sl 4 t.val) (Ring.bk 27 t.val) _ n j k)
  match a with
  | ⟨0, _⟩ => show t.val % 4 + 0 = (Ring.sl 4 t.val).val; rw [Ring.sl_val]; omega
  | ⟨1, _⟩ => show n.val + 0 = n.val; omega
  | ⟨2, _⟩ => show 0 + j.val = j.val; omega
  | ⟨3, _⟩ => show 0 + k.val = k.val; omega

variable (c : Dev nD)

/-- What trip `t` stores, at (b, j): the gated linear unit at column `512 t + j`. -/
theorem out_at (t : Fin k0_t1_loop.trips) (b : Fin 64) (j : Fin 512) :
    Stream.pay (F := Ideal) c (V m c main_arg1) xM sM (xIn c (V m c main_v0) xM) (sIn c (V m c main_arg2) sM) t (ix2 b j)
      = rows m c (ix2 b (col (Ring.bk 27 t.val) j)) := by
  have hv : (Ring.bk 27 t.val).val = t.val := Ring.bk_val (lt27 t)
  unfold Stream.pay
  rw [Block.pay_at]
  unfold rows elem
  have w0 (k) := ldw c (V m c main_arg1) t 0 (k0_off7 t) (k0_off7_inb t) (k0_off7_eq t) j k
  have w1 (k) := ldw c (V m c main_arg1) t 1 (k0_off9 t) (k0_off9_inb t) (k0_off9_eq t) j k
  have s0 := lds c (V m c main_arg2) (Ring.bk 27 t.val) 0 (k0_off8 t) (k0_off8_inb t) ((k0_off8_eq t).trans (by rw [hv]; rfl)) j
  have s1 := lds c (V m c main_arg2) (Ring.bk 27 t.val) 1 (k0_off10 t) (k0_off10_inb t) ((k0_off10_eq t).trans (by rw [hv]; rfl)) j
  rw [V_main_arg1] at w0 w1
  rw [V_main_arg2] at s0 s1
  have hx (k) := (ldx c (V m c main_v0) b k).trans (x_at m c b k)
  exact congrArg₂ glu (congr (congrArg₂ lin (funext hx) (funext w0)) s0) (congr (congrArg₂ lin (funext hx) (funext w1)) s1)

/-- The staging buffer's final contents are the gated linear unit. -/
theorem outC_eq : outC (F := Ideal) m c = rows m c := by
  funext i
  obtain ⟨b, o, rfl⟩ : ∃ (b : Fin 64) (o : Fin 13824), i = ix2 b o := ⟨i 0, i 1, eq_ix2 i⟩
  unfold outC outB
  refine (out_at m c _ b _).trans (congrArg (rows m c) (congrArg (ix2 b) (Fin.ext ?_)))
  have ho := o.isLt
  show 512 * (Ring.bk 27 (o.val / 512)).val + o.val % 512 = o.val
  rw [Ring.bk_val (by omega)]; omega

/-- The one window's block is the whole array. -/
theorem idx_facts : ∀ t : Fin cfg0.N, win0_0.index t 0 = 0 ∧ win0_0.index t 1 = 0 := by decide +kernel

/-- Reading that block of an array gives the array. -/
theorem blk_emb (t : Fin cfg0.N) (i : S64x13824.Idx) (G : FVec Ideal S64x13824 .bf16) : (win0_0.blk t).view.read (Elt Ideal) G i = G i := by
  obtain ⟨e0, e1⟩ := idx_facts t
  refine congrArg G (funext fun a => Fin.ext ?_)
  refine (win0_0.rect_emb_val t i a).trans ?_
  match a with
  | ⟨0, _⟩ => show win0_0.index t 0 * 64 + (i 0).val = (i 0).val; rw [e0]; omega
  | ⟨1, _⟩ => show win0_0.index t 1 * 13824 + (i 1).val = (i 1).val; rw [e1]; omega

/-- The point writes back the whole result. -/
theorem flushed_eq (t : Fin cfg0.N) :
    (Stream.dats m 0 c).flushed 0 t = (win0_0.blk t).view.read (Elt Ideal) (rows m c) := by
  show (cfg0.win 0).cut (grid0.coords t) ((Stream.dats m 0 c).after 0 t) = _
  rw [after_w0, outC_eq]
  funext i
  exact (blk_emb t i (rows m c)).symm

/-- The one block is the whole output. -/
theorem cover (i : S64x13824.Idx) :
    ∃ t : Fin cfg0.N, (cfg0.win 0).flush t = true ∧ i ∈ ((cfg0.win 0).blk t).view.set := by
  refine ⟨t0_0, flush0_0 _, ?_⟩
  obtain ⟨e0, e1⟩ := idx_facts t0_0
  show i ∈ ((View.whole main_v1).slice (win0_0.rect t0_0)).set
  rw [View.set_slice_whole, Rect.mem_set_unit]
  have h0 : (i 0 : Nat) < 64 := (i 0).isLt
  have h1 : (i 1 : Nat) < 13824 := (i 1).isLt
  intro a
  match a with
  | ⟨0, _⟩ =>
    show win0_0.index t0_0 0 * 64 ≤ (i 0 : Nat) ∧ (i 0 : Nat) < win0_0.index t0_0 0 * 64 + 64
    rw [e0]; omega
  | ⟨1, _⟩ =>
    show win0_0.index t0_0 1 * 13824 ≤ (i 1 : Nat) ∧ (i 1 : Nat) < win0_0.index t0_0 1 * 13824 + 13824
    rw [e1]; omega

/-- The output array after the kernel. -/
theorem final : (Stream.dats m 0 c).arrAt 0 cfg0.N = rows m c :=
  (Stream.dats m 0 c).arrAt_eq_of_cover 0 (rows m c) (fun t _ => flushed_eq m c t) cover

/-- The rows reshaped are the whole result. -/
theorem reshape_rows (c : Dev nD) :
    shapeCast S64x1x13824 (rows m c) shapeCasts_S64x13824_S64x1x13824 = whole (AX m c) (AW m c) (AS m c) := by
  funext i
  obtain ⟨b, z, o, rfl⟩ : ∃ b z o, i = ix3 b z o := ⟨i 0, i 1, i 2, eq_ix3 i⟩
  exact shapeCast_apply (rows m c) shapeCasts_S64x13824_S64x1x13824 (ix3 b z o) (ix2 b o) (by
    rw [Shape.rowMajor_val_three, Shape.rowMajor_val_two]
    show b.val * 13824 + o.val = (b.val * 1 + z.val) * 13824 + o.val
    omega)

/-- The result buffer after the reshape that follows the kernel. -/
theorem tail_result (c : Dev nD) :
    Pipeline.afterTail₀ cfgs (Stream.dats m) 0 (V0 m) [hostOps1] c main_v2 = whole (AX m c) (AW m c) (AS m c) := by
  have h : Pipeline.afterTail₀ cfgs (Stream.dats m) 0 (V0 m) [hostOps1] c main_v2
      = shapeCast S64x1x13824 (Pipeline.withArrays (cfgs 0).spec c (V0 m c) (fun w => (Stream.dats m 0 c).arrAt w (cfgs 0).N)
          (Proc.devRef .tc main_v1)) shapeCasts_S64x13824_S64x1x13824 := by
    unfold Pipeline.afterTail₀
    simp only [hostOps1, List.flatten_cons, List.flatten_nil, List.append_nil]
    generalize Pipeline.withArrays (cfgs 0).spec c (V0 m c) (fun w => (Stream.dats m 0 c).arrAt w (cfgs 0).N) = U
    after_results_simp <;> rfl
  rw [h, ← reshape_rows, ← final]
  exact congrArg (fun f => shapeCast S64x1x13824 f shapeCasts_S64x13824_S64x1x13824)
    (Pipeline.withArrays_arr (cfgs 0).spec launch0.win.arr_inj c (V0 m c) (fun w => (Stream.dats m 0 c).arrAt w (cfgs 0).N) 0)

/-- The idealized kernel runs, its result is the gated linear unit of its arguments, and the arguments are unchanged. -/
theorem run : θ_run defs (onTc (τ := τ) (main (F := Ideal))) ⟨m, fun _ => 0, ρ⟩ fun r => ∀ c : Dev nD,
      r.2.mem ((c : Thread nD τ).loc main_v2) = whole (AX m c) (AW m c) (AS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    have at_ (b : Ref sig .tc) (h₁ h₂) := (h.1 c).2 b (Pipeline.mem_restRefs_of b h₁ h₂)
    ⟨(at_ main_v2 (by decide) (by decide)).trans (tail_result m c), (at_ main_arg0 (by decide) (by decide)).trans (W_main_arg0 m c),
      (at_ main_arg1 (by decide) (by decide)).trans (W_main_arg1 m c), (at_ main_arg2 (by decide) (by decide)).trans (W_main_arg2 m c)⟩)
    (Stream.run_main m ρ)

end Cert.KernelIdeal.RefValue

end
-- ==== Proof.RingBits.lean ====
/-
  The kernel's ring of weight blocks: four slots of vector memory, three blocks of 512 output columns ahead, each slot
  counted on a semaphore of its own. This module names the blocks and the slots, states what one trip of the kernel's
  loop does to them, and gives the loop its invariant.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffix
public import Idealize.ShloMosaic.Lib.Ring.Trips
public import Idealize.ShloMosaic.Lib.Tactic

@[expose] public section

noncomputable section

namespace Cert.Kernel.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's rounds beside the counters the kernel's own transfers ride on -/

/-- The resources beside memory: the transfers' and the counters'. -/
abbrev UU (nD : Nat) (τ : Topo) : Type := UR sig nD τ × Counters
local notation "𝕄" => MT nD τ sig Unit (Elt F) ℕ (UU nD τ) ℕ
/-- No variants: every loop here has its own trip count. -/
abbrev 𝒱₀ : Variants := Variants.none

omit [FloatOps F] in
/-- Equal assertions entail each other. -/
theorem entails_of_eq {P Q : sProp 𝕄} (e : P = Q) : P ⊢ Q := e ▸ .rfl

/-! ## Names for the weight blocks, the slots and their semaphores -/

/-- The activations, the weights and the scales in main memory, and their buffers in vector memory. -/
abbrev xH : Memref sig .tc .hbm S64x4096 .bf16 := Memref.whole main_v0
abbrev wH : Memref sig .tc .hbm S2x13824x4096 .i8 := Memref.whole main_arg1
abbrev sH : Memref sig .tc .hbm S2x13824 .f32 := Memref.whole main_arg2
abbrev xM : Memref sig .tc .vmem S64x4096 .bf16 := Memref.whole cc0_scratch0
abbrev wM : Memref sig .tc .vmem S4x2x512x4096 .i8 := Memref.whole cc0_scratch1
abbrev sM : Memref sig .tc .vmem S2x13824 .f32 := Memref.whole cc0_scratch2

/-- Where block `b` starts in the weights. -/
abbrev blkOff (b : Fin 27) : Fin 3 → Nat := ![0, 512 * b.val, 0]
/-- Block `b` lies within the weights. -/
theorem blkOff_inb (b : Fin 27) : ∀ a, blkOff b a + S2x512x4096.size a ≤ S2x13824x4096.size a := by
  have := b.isLt; intro a; fin_cases a
  · show 0 + 2 ≤ 2; omega
  · show 512 * b.val + 512 ≤ 13824; omega
  · show 0 + 4096 ≤ 4096; omega
/-- Where slot `s` starts in the ring's buffer. -/
abbrev slotOff (s : Fin 4) : Fin 4 → Nat := ![s.val, 0, 0, 0]
/-- Slot `s` lies within the ring's buffer. -/
theorem slotOff_inb (s : Fin 4) : ∀ a, slotOff s a + S1x2x512x4096.size a ≤ S4x2x512x4096.size a := by
  have := s.isLt; intro a; fin_cases a
  · show s.val + 1 ≤ 4; omega
  · show 0 + 2 ≤ 2; omega
  · show 0 + 512 ≤ 512; omega
  · show 0 + 4096 ≤ 4096; omega
/-- Where slot `s`'s semaphore lies in the array of four. -/
abbrev semOff (s : Fin 4) : Fin 1 → Nat := ![s.val]
/-- Slot `s`'s semaphore lies within the array of four. -/
theorem semOff_inb (s : Fin 4) : ∀ a, semOff s a + S1.size a ≤ S4.size a := by
  have := s.isLt; intro a; fin_cases a; show s.val + 1 ≤ 4; omega

/-- Block `b` of the weights: both matrices' rows `512 b … 512 b + 511`, as the kernel slices them. -/
def blk (b : Fin 27) : Memref sig .tc .hbm S2x512x4096 .i8 :=
  wH.slice (Rect.unit (s := S2x13824x4096) (blkOff b) S2x512x4096.size (blkOff_inb b)) (fun _ => rfl)
/-- Slot `s` of the ring, as the kernel slices and squeezes it. -/
def slot (s : Fin 4) : Memref sig .tc .vmem S2x512x4096 .i8 :=
  (wM.slice (Rect.unit (s := S4x2x512x4096) (slotOff s) S1x2x512x4096.size (slotOff_inb s)) (fun _ => rfl)).squeeze S2x512x4096 squeezes_S1x2x512x4096_S2x512x4096
/-- Slot `s`'s semaphore. -/
def csm (s : Fin 4) : DmaSems sig S_ := (cc0_scratch4.slice (Rect.unit (s := S4) (semOff s) S1.size (semOff_inb s))).squeeze S_ squeezes_S1_S_

instance (k : ℕ) : ClosedOff (slotOff (Ring.sl 4 k)) := ⟨![k % 4, 0, 0, 0], by rw [slotOff, Ring.sl_val]⟩
instance (b : Fin 27) : ClosedOff (blkOff b) := ⟨blkOff b, rfl⟩

/-- The loop has 27 trips; all but the last three start a block. -/
theorem trips : k0_t1_loop.trips = 27 := by decide +kernel
theorem cond_on : ∀ k : Fin k0_t1_loop.trips, k.val + 3 < 27 → k0_cond1 k = 1#1 := by decide +kernel
theorem cond_off : ∀ k : Fin k0_t1_loop.trips, ¬ k.val + 3 < 27 → ¬ k0_cond1 k = 1#1 := by decide +kernel

/-- The semaphores, slots and blocks at equal offsets are equal. -/
theorem csm_congr {off : Fin 1 → Nat} {s : Fin 4} (e : off = semOff s) (hh) :
    (cc0_scratch4.slice (Rect.unit (s := S4) off S1.size hh)).squeeze S_ squeezes_S1_S_ = csm s :=
  congrArg (fun A : DmaSems sig S1 => A.squeeze S_ squeezes_S1_S_) (SemArray.slice_unit_congr _ e _ _)
theorem slot_congr {off : Fin 4 → Nat} {s : Fin 4} (e : off = slotOff s) (hh hs) :
    (wM.slice (Rect.unit (s := S4x2x512x4096) off S1x2x512x4096.size hh) hs).squeeze S2x512x4096 squeezes_S1x2x512x4096_S2x512x4096 = slot s :=
  congrArg (fun M : Memref sig .tc .vmem S1x2x512x4096 .i8 => M.squeeze S2x512x4096 squeezes_S1x2x512x4096_S2x512x4096) (Memref.slice_unit_congr _ e _ _ _ _)
theorem blk_congr {off : Fin 3 → Nat} {b : Fin 27} (e : off = blkOff b) (hh hs) :
    wH.slice (Rect.unit (s := S2x13824x4096) off S2x512x4096.size hh) hs = blk b :=
  Memref.slice_unit_congr _ e _ _ _ (fun _ => rfl)

/-- The prologue's slices are slots, semaphores and blocks 0, 1 and 2. -/
@[sl_canon] theorem semL0 (hh) : (cc0_scratch4.slice (Rect.unit (s := S4) ![0] S1.size hh)).squeeze S_ squeezes_S1_S_ = csm 0 := csm_congr (by decide) _
@[sl_canon] theorem semL1 (hh) : (cc0_scratch4.slice (Rect.unit (s := S4) ![1] S1.size hh)).squeeze S_ squeezes_S1_S_ = csm 1 := csm_congr (by decide) _
@[sl_canon] theorem semL2 (hh) : (cc0_scratch4.slice (Rect.unit (s := S4) ![2] S1.size hh)).squeeze S_ squeezes_S1_S_ = csm 2 := csm_congr (by decide) _
@[sl_canon] theorem slotL0 (hh hs) : (wM.slice (Rect.unit (s := S4x2x512x4096) ![0, 0, 0, 0] S1x2x512x4096.size hh) hs).squeeze S2x512x4096 squeezes_S1x2x512x4096_S2x512x4096 = slot 0 := slot_congr (by decide) _ _
@[sl_canon] theorem slotL1 (hh hs) : (wM.slice (Rect.unit (s := S4x2x512x4096) ![1, 0, 0, 0] S1x2x512x4096.size hh) hs).squeeze S2x512x4096 squeezes_S1x2x512x4096_S2x512x4096 = slot 1 := slot_congr (by decide) _ _
@[sl_canon] theorem slotL2 (hh hs) : (wM.slice (Rect.unit (s := S4x2x512x4096) ![2, 0, 0, 0] S1x2x512x4096.size hh) hs).squeeze S2x512x4096 squeezes_S1x2x512x4096_S2x512x4096 = slot 2 := slot_congr (by decide) _ _
@[sl_canon] theorem blkL0 (hh hs) : wH.slice (Rect.unit (s := S2x13824x4096) ![0, 0, 0] S2x512x4096.size hh) hs = blk 0 := blk_congr (by decide) _ _
@[sl_canon] theorem blkL1 (hh hs) : wH.slice (Rect.unit (s := S2x13824x4096) ![0, 512, 0] S2x512x4096.size hh) hs = blk 1 := blk_congr (by decide) _ _
@[sl_canon] theorem blkL2 (hh hs) : wH.slice (Rect.unit (s := S2x13824x4096) ![0, 1024, 0] S2x512x4096.size hh) hs = blk 2 := blk_congr (by decide) _ _

section Trip
variable (k : Fin k0_t1_loop.trips)

/-- A trip's number is below 27. -/
theorem lt27 : k.val < 27 := Nat.lt_of_lt_of_eq k.isLt trips
/-- Trip `s`'s slot is `s % 4`. -/
theorem off_sl (s : ℕ) : (Ring.sl 4 s).val = s % 4 := Ring.sl_val 4 s

/-- Trip `k` starts block `k + 3` into slot `(k + 3) % 4` and waits block `k` in slot `k % 4`. -/
@[sl_canon] theorem semI (hh) : (cc0_scratch4.slice (Rect.unit (s := S4) (k0_off1 k) S1.size hh)).squeeze S_ squeezes_S1_S_ = csm (Ring.sl 4 (k.val + 3)) :=
  csm_congr ((k0_off1_eq k).trans (by rw [semOff, off_sl])) _
@[sl_canon] theorem slotI (hh hs) : (wM.slice (Rect.unit (s := S4x2x512x4096) (k0_off2 k) S1x2x512x4096.size hh) hs).squeeze S2x512x4096 squeezes_S1x2x512x4096_S2x512x4096 = slot (Ring.sl 4 (k.val + 3)) :=
  slot_congr ((k0_off2_eq k).trans (by rw [slotOff, off_sl])) _ _
@[sl_canon] theorem blkI (h : k.val + 3 < 27) (hh hs) : wH.slice (Rect.unit (s := S2x13824x4096) (k0_off3 k) S2x512x4096.size hh) hs = blk (Ring.bk 27 (k.val + 3)) :=
  blk_congr ((k0_off3_eq k).trans (by rw [blkOff, Ring.bk_val h, Nat.mul_add])) _ _
@[sl_canon] theorem semW (hh) : (cc0_scratch4.slice (Rect.unit (s := S4) (k0_off4 k) S1.size hh)).squeeze S_ squeezes_S1_S_ = csm (Ring.sl 4 k.val) :=
  csm_congr ((k0_off4_eq k).trans (by rw [semOff, off_sl])) _
@[sl_canon] theorem slotW (hh hs) : (wM.slice (Rect.unit (s := S4x2x512x4096) (k0_off5 k) S1x2x512x4096.size hh) hs).squeeze S2x512x4096 squeezes_S1x2x512x4096_S2x512x4096 = slot (Ring.sl 4 k.val) :=
  slot_congr ((k0_off5_eq k).trans (by rw [slotOff, off_sl])) _ _
@[sl_canon] theorem blkW (hh hs) : wH.slice (Rect.unit (s := S2x13824x4096) (k0_off6 k) S2x512x4096.size hh) hs = blk (Ring.bk 27 k.val) :=
  blk_congr ((k0_off6_eq k).trans (by rw [blkOff, Ring.bk_val (lt27 k)])) _ _

end Trip

/-! ## The pieces: a block home, a slot held, its semaphore at zero, a slot in flight -/

section Pieces
variable (c : Dev nD) (W : Buf (Elt F) (wH.view.loc (c : Thread nD τ)))

/-- Slot `s`'s semaphore at zero. -/
abbrev cellP (s : Fin 4) : sProp 𝕄 := semVal ((c : Thread nD τ), SemLoc.dma (csm s).sem) 0
/-- Slot `s` held on its elements at contents `f`. -/
abbrev slotP (s : Fin 4) (f : Buf (Elt F) ((slot s).view.loc (c : Thread nD τ))) : sProp 𝕄 :=
  (slot s).view.loc (c : Thread nD τ) ↦[(slot s).view.set]{fullShare} f
/-- Block `b` at home: held on its elements at the weights' contents. -/
abbrev homeP (b : Fin 27) : sProp 𝕄 := (blk b).view.loc (c : Thread nD τ) ↦[(blk b).view.set]{fullShare} W
/-- Block `b`'s words, as a slot receives them. -/
abbrev payload (b : Fin 27) : S2x512x4096.Idx → Elt F .i8 := ReadAs.same.apply ((blk b).view.read (Elt F) W)
/-- What block `b`'s transfer leaves in slot `s` over contents `f`. -/
abbrev landed (s : Fin 4) (b : Fin 27) (f : Buf (Elt F) ((slot s).view.loc (c : Thread nD τ))) : Buf (Elt F) ((slot s).view.loc (c : Thread nD τ)) :=
  (slot s).view.writes (Elt F) f [⟨Rect.whole S2x512x4096, payload c W b⟩]
/-- A block's transfer moves this many units on its semaphore. -/
abbrev NN : ℕ := 131072
/-- Slot `s` in flight with block `b`, started over `f`. -/
abbrev flightP (s : Fin 4) (b : Fin 27) (f : Buf (Elt F) ((slot s).view.loc (c : Thread nD τ))) : sProp 𝕄 :=
  Transfers.Flight countersEmb (c : Thread nD τ) (SemLoc.dma (csm s).sem) () NN iprop(slotP c s (landed c W s b f) ∗ homeP c W b)

/-- Slot `s` free: held at some contents, its semaphore at zero. -/
def freeP (s : Fin 4) : sProp 𝕄 := iprop((∃ f, slotP (F := F) c s f) ∗ cellP c s)
/-- Slot `p % 4` before trip `p`'s turn: in flight with block `p`, or free past the last block. -/
def roleP (p : ℕ) : sProp 𝕄 :=
  Ring.roleAt (NB := 27) (freeP c (Ring.sl 4 p)) (fun b => iprop(∃ f, flightP c W (Ring.sl 4 p) b f)) p

/-- Before trip `p`'s turn its slot is in flight with block `p`, if there is a block `p`. -/
theorem roleP_lt (p : ℕ) (h : p < 27) : roleP c W p = iprop(∃ f, flightP c W (Ring.sl 4 p) (Ring.bk 27 p) f) := Ring.roleAt_of_lt _ _ p h
theorem roleP_le (p : ℕ) (h : 27 ≤ p) : roleP c W p = freeP c (Ring.sl 4 p) := Ring.roleAt_of_le _ _ p h

/-- The blocks at home before trip `k`, block `k + 3` set apart. -/
theorem homes_here (k : ℕ) (hk : k + 3 < 27) :
    bigSep (Ring.homeSet 3 k) (homeP c W) = iprop(homeP c W (Ring.bk 27 (k + 3)) ∗ bigSep ((Ring.homeSet 3 k).erase (Ring.bk 27 (k + 3))) (homeP c W)) := by
  conv_lhs => rw [Ring.homeSet_out 3 k hk, bigSep_insert (Ring.bkL_not_mem_erase 3 k)]
  rfl
/-- The blocks at home after trip `k`, block `k` set apart. -/
theorem homes_next (k : ℕ) (hk : k + 3 < 27) :
    bigSep (Ring.homeSet 3 (k + 1)) (homeP c W) = iprop(homeP c W (Ring.bk 27 k) ∗ bigSep ((Ring.homeSet 3 k).erase (Ring.bk 27 (k + 3))) (homeP c W)) := by
  conv_lhs => rw [Ring.homeSet_succ 3 k hk, bigSep_insert (Ring.bk_not_mem_erase 3 k (by omega) (by decide))]
  rfl
/-- The same in the last three trips, which start no block. -/
theorem homes_tail (k : ℕ) (hk : 27 ≤ k + 3) (h : k < 27) :
    bigSep (Ring.homeSet 3 (k + 1)) (homeP c W) = iprop(homeP c W (Ring.bk 27 k) ∗ bigSep (Ring.homeSet 3 k) (homeP c W)) := by
  conv_lhs => rw [Ring.homeSet_succ_tail 3 k hk h, bigSep_insert (Ring.bk_not_mem_homeSet 3 k h (by decide))]
  rfl

end Pieces

/-! ## One trip -/

section Trip
variable (c : Dev nD) (W : Buf (Elt F) (wH.view.loc (c : Thread nD τ)))
  (x : Memref sig .tc .vmem S64x4096 .bf16) (hx : x.IsWhole) (s : Memref sig .tc .vmem S2x13824 .f32) (hs : s.IsWhole)
  (X : Buf (Elt F) (x.view.loc (c : Thread nD τ))) (S : Buf (Elt F) (s.view.loc (c : Thread nD τ)))
  (y : Memref sig .tc .vmem S64x13824 .bf16) (hy : y.IsWhole)

/-- The result's staging buffer held at `f`. -/
abbrev yP (f : Buf (Elt F) (y.view.loc (c : Thread nD τ))) : sProp 𝕄 := y.view.loc (c : Thread nD τ) ↦[y.view.set]{fullShare} f

/-- The resources before trip `k`, the result's staging buffer at `f`. -/
def resAt (k : ℕ) (f : Buf (Elt F) (y.view.loc (c : Thread nD τ))) : sProp 𝕄 :=
  iprop(yP c y f ∗ (x.view.loc (c : Thread nD τ) ↦[x.view.set]{fullShare} X) ∗ (s.view.loc (c : Thread nD τ) ↦[s.view.set]{fullShare} S)
    ∗ (∃ O, owes (c : Thread nD τ) 0 O) ∗ bigSep (Ring.homeSet 3 k) (homeP c W)
    ∗ roleP c W k ∗ roleP c W (k + 1) ∗ roleP c W (k + 2) ∗ freeP c (Ring.sl 4 (k + 3)))

/-- One trip of the kernel's loop. -/
abbrev tripG (k : Fin k0_t1_loop.trips) : Prog (TpuEff nD τ sig (Elt F) Λ₀ .tc) Unit :=
  k0_t1_body (F := F) xH (Memref.isWhole_whole _) wH (Memref.isWhole_whole _) sH (Memref.isWhole_whole _) y hy
    x hx wM (Memref.isWhole_whole _) s hs cc0_scratch3 cc0_scratch4 cc0_scratch5 k ()

/-- The 512 columns trip `k` stores. -/
abbrev R (k : Fin k0_t1_loop.trips) : Rect S64x13824 := Rect.unit (s := S64x13824) (k0_off11 k) S64x512.size (k0_off11_inb k)

/-- The slot four trips on is the same slot. -/
theorem sl4_add4 (k : ℕ) : Ring.sl 4 (k + 1 + 3) = Ring.sl 4 k := Ring.sl_succ_add 4 k 3 rfl

/-- Trip `k` takes the resources at `k` to those at `k + 1`, storing `w` in its columns. -/
structure TripOk (k : Fin k0_t1_loop.trips) (f : Buf (Elt F) (y.view.loc (c : Thread nD τ))) (w : (R k).shape.Idx → Elt F .bf16) : Prop where
  ok : resAt c W x s X S y k f ⊢ wp frame (wpE (defs₀ (F := F)) 𝒱₀ (c : Thread nD τ) none) Set.univ (tripG x hx s hs y hy k)
    (fun _ => resAt c W x s X S y (k.val + 1) (y.view.writes (Elt F) f [⟨R k, w⟩]))

set_option backward.proofsInPublic true in
/-- One trip that starts a block. -/
def tripRun (k : Fin k0_t1_loop.trips) (hk : k.val + 3 < 27) (f : Buf (Elt F) (y.view.loc (c : Thread nD τ))) :
    { w : (R k).shape.Idx → Elt F .bf16 // TripOk c W x hx s hs X S y hy k f w } := by
  refine ⟨?_, ?run⟩
  case run =>
    have hc := cond_on k hk
    constructor
    unfold resAt
    rw [homes_here c W k.val hk, homes_next c W k.val hk, sl4_add4, roleP_lt c W k.val (by omega), show k.val + 1 + 2 = k.val + 3 from rfl,
      roleP_lt c W (k.val + 3) hk]
    unfold freeP
    iintro ⟨HY, HX, HS, ⟨%O, HW⟩, ⟨Hg, Hrest⟩, ⟨%f0, HF0⟩, HF1, HF2, ⟨%f3, Hs3⟩, Hc3⟩
    dsimp only [tripG]
    sl_unfold [k0_t1_body]
    sl_exec
    sl_step
    isplitl [HY]; · iexact HY
    isplitl [HX]; · iexact HX
    isplitl [HS]; · iexact HS
    isplitl [HW]; · iexists _; iexact HW
    isplitl [HF0_src Hrest]
    · isplitl [HF0_src]; · iexact HF0_src
      iexact Hrest
    isplitl [HF1]; · iexact HF1
    isplitl [HF2]; · iexact HF2
    isplitl [Hc3]; · iexists f3; iexact Hc3
    isplitl [HF0_dst]; · iexists _; iexact HF0_dst
    iexact HF0

set_option backward.proofsInPublic true in
/-- One of the last three trips, which start no block. -/
def tripTail (k : Fin k0_t1_loop.trips) (hk : ¬ k.val + 3 < 27) (f : Buf (Elt F) (y.view.loc (c : Thread nD τ))) :
    { w : (R k).shape.Idx → Elt F .bf16 // TripOk c W x hx s hs X S y hy k f w } := by
  refine ⟨?_, ?run⟩
  case run =>
    have hc := cond_off k hk
    have h27 := lt27 k
    constructor
    unfold resAt
    rw [homes_tail c W k.val (by omega) h27, sl4_add4, roleP_lt c W k.val h27, show k.val + 1 + 2 = k.val + 3 from rfl,
      roleP_le c W (k.val + 3) (by omega)]
    iintro ⟨HY, HX, HS, ⟨%O, HW⟩, Hrest, ⟨%f0, HF0⟩, HF1, HF2, HF3⟩
    dsimp only [tripG]
    sl_unfold [k0_t1_body]
    sl_exec
    sl_step
    isplitl [HY]; · iexact HY
    isplitl [HX]; · iexact HX
    isplitl [HS]; · iexact HS
    isplitl [HW]; · iexists _; iexact HW
    isplitl [HF0_src Hrest]
    · isplitl [HF0_src]; · iexact HF0_src
      iexact Hrest
    isplitl [HF1]; · iexact HF1
    isplitl [HF2]; · iexact HF2
    isplitl [HF3]; · iexact HF3
    unfold freeP
    isplitl [HF0_dst]; · iexists _; iexact HF0_dst
    iexact HF0

/-- The 512 columns trip `k` stores, as either kind of trip finds them. -/
def word (k : Fin k0_t1_loop.trips) (f : Buf (Elt F) (y.view.loc (c : Thread nD τ))) : (R k).shape.Idx → Elt F .bf16 :=
  if h : k.val + 3 < 27 then (tripRun c W x hx s hs X S y hy k h f).1 else (tripTail c W x hx s hs X S y hy k h f).1

/-- The columns of a trip that starts a block are that trip's. -/
theorem word_run (k : Fin k0_t1_loop.trips) (h : k.val + 3 < 27) (f : Buf (Elt F) (y.view.loc (c : Thread nD τ))) :
    word c W x hx s hs X S y hy k f = (tripRun c W x hx s hs X S y hy k h f).1 := dif_pos h
/-- The columns of one of the last three trips are that trip's. -/
theorem word_tail (k : Fin k0_t1_loop.trips) (h : ¬ k.val + 3 < 27) (f : Buf (Elt F) (y.view.loc (c : Thread nD τ))) :
    word c W x hx s hs X S y hy k f = (tripTail c W x hx s hs X S y hy k h f).1 := dif_neg h

/-- Every trip takes the resources at `k` to those at `k + 1`, its columns stored. -/
theorem trip (k : Fin k0_t1_loop.trips) (f : Buf (Elt F) (y.view.loc (c : Thread nD τ))) :
    TripOk c W x hx s hs X S y hy k f (word c W x hx s hs X S y hy k f) := by
  by_cases h : k.val + 3 < 27
  · rw [word_run c W x hx s hs X S y hy k h f]
    exact (tripRun c W x hx s hs X S y hy k h f).2
  · rw [word_tail c W x hx s hs X S y hy k h f]
    exact (tripTail c W x hx s hs X S y hy k h f).2

/-- The result's staging buffer before trip `k`: each trip's columns stored over its contents `f` at the loop's entry. -/
def oAcc (f : Buf (Elt F) (y.view.loc (c : Thread nD τ))) : ℕ → Buf (Elt F) (y.view.loc (c : Thread nD τ))
  | 0 => f
  | k + 1 =>
    if h : k < k0_t1_loop.trips then
      y.view.writes (Elt F) (oAcc f k) [⟨R ⟨k, h⟩, word c W x hx s hs X S y hy ⟨k, h⟩ (oAcc f k)⟩]
    else oAcc f k

set_option warn.classDefReducibility false in
/-- The loop's invariant: the resources before trip `k`, the staging buffer at what the trips before it stored. -/
@[sl_loop] def loopInv (f : Buf (Elt F) (y.view.loc (c : Thread nD τ))) :
    LoopInvTy_k0_t1 (F := F) Unit ℕ (UU nD τ) ℕ 𝒱₀ c none Set.univ xH (Memref.isWhole_whole _) wH (Memref.isWhole_whole _) sH (Memref.isWhole_whole _) y hy
      x hx wM (Memref.isWhole_whole _) s hs cc0_scratch3 cc0_scratch4 cc0_scratch5 where
  inv k _ := resAt c W x s X S y k (oAcc c W x hx s hs X S y hy f k)
  step k _ := by
    have e : oAcc c W x hx s hs X S y hy f (k.val + 1)
        = y.view.writes (Elt F) (oAcc c W x hx s hs X S y hy f k) [⟨R k, word c W x hx s hs X S y hy k (oAcc c W x hx s hs X S y hy f k)⟩] := by
      rw [oAcc, dif_pos k.isLt]
    rw [e]
    iintro H
    iapply (trip c W x hx s hs X S y hy k _).ok
    iexact H

end Trip

end Cert.Kernel.Stream

end
-- ==== Proof.RunBits.lean ====
/-
  The kernel's run: its copies of the activations and the scales, the three blocks it starts ahead, its 27 trips, and the
  array it leaves in the result's staging buffer.
-/
module

public import proofs.«01_k».proof.Proof.RingBits
public import Idealize.ShloMosaic.Lib.ValueIdx
public import Idealize.ShloMosaic.Lib.WritesUnit

@[expose] public section

noncomputable section

namespace Cert.Kernel.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Body
variable (c : Dev nD) (W : Buf (Elt F) (wH.view.loc (c : Thread nD τ)))
  (X0 : Buf (Elt F) (xH.view.loc (c : Thread nD τ))) (S0 : Buf (Elt F) (sH.view.loc (c : Thread nD τ)))
  (x : Memref sig .tc .vmem S64x4096 .bf16) (hx : x.IsWhole) (s : Memref sig .tc .vmem S2x13824 .f32) (hs : s.IsWhole)
  (y : Memref sig .tc .vmem S64x13824 .bf16) (hy : y.IsWhole)

/-- The kernel on the given staging and scratch buffers. -/
abbrev bodyG : Prog (TpuEff nD τ sig (Elt F) Λ₀ .tc) PUnit :=
  cc0_int8_glu (F := F) xH (Memref.isWhole_whole _) wH (Memref.isWhole_whole _) sH (Memref.isWhole_whole _) y hy
    x hx wM (Memref.isWhole_whole _) s hs cc0_scratch3 cc0_scratch4 cc0_scratch5

/-- The activations' array in main memory, held whole. -/
abbrev xHP : sProp 𝕄 := xH.view.loc (c : Thread nD τ) ↦[xH.view.set]{fullShare} X0
/-- The scales' array in main memory, held whole. -/
abbrev sHP : sProp 𝕄 := sH.view.loc (c : Thread nD τ) ↦[sH.view.set]{fullShare} S0
/-- The activations' buffer in vector memory, held at `f`. -/
abbrev xP (f : Buf (Elt F) (x.view.loc (c : Thread nD τ))) : sProp 𝕄 := x.view.loc (c : Thread nD τ) ↦[x.view.set]{fullShare} f
/-- The scales' buffer in vector memory, held at `f`. -/
abbrev sP (f : Buf (Elt F) (s.view.loc (c : Thread nD τ))) : sProp 𝕄 := s.view.loc (c : Thread nD τ) ↦[s.view.set]{fullShare} f
/-- The semaphore of the activations' copy, at zero. -/
abbrev xCell : sProp 𝕄 := semVal ((c : Thread nD τ), SemLoc.dma cc0_scratch3.sem) 0
/-- The semaphore of the scales' copy, at zero. -/
abbrev sCell : sProp 𝕄 := semVal ((c : Thread nD τ), SemLoc.dma cc0_scratch5.sem) 0

/-- What the kernel holds besides the result's staging buffer, before and after it runs. -/
abbrev Held : sProp 𝕄 :=
  iprop(xHP c X0 ∗ sHP c S0 ∗ bigSep Finset.univ (homeP c W) ∗ (∃ f, xP c x f) ∗ (∃ f, sP c s f)
    ∗ freeP c 0 ∗ freeP c 1 ∗ freeP c 2 ∗ freeP c 3 ∗ xCell c ∗ sCell c)

/-- All 27 blocks at home are blocks 0, 1 and 2, which the kernel starts first, and the rest. -/
theorem homes_zero :
    bigSep Finset.univ (homeP c W) = iprop(homeP c W 0 ∗ homeP c W 1 ∗ homeP c W 2 ∗ bigSep (Ring.homeSet 3 0) (homeP c W)) := by
  have e : (Finset.univ : Finset (Fin 27)) = insert 0 (insert 1 (insert 2 (Ring.homeSet (NB := 27) 3 0))) := by
    ext b; simp only [Finset.mem_univ, Finset.mem_insert, Ring.mem_homeSet, true_iff, Fin.ext_iff]; have := b.isLt; simp; omega
  rw [e, bigSep_insert (by simp [Ring.mem_homeSet, Fin.ext_iff]), bigSep_insert (by simp [Ring.mem_homeSet, Fin.ext_iff]),
    bigSep_insert (by simp [Ring.mem_homeSet, Fin.ext_iff])]; rfl

/-- The first four trips' slots are 0 to 3, and the first three blocks are 0 to 2. -/
theorem sl4_0 : Ring.sl 4 0 = 0 := Fin.ext (by rfl)
theorem sl4_1 : Ring.sl 4 (0 + 1) = 1 := Fin.ext (by rfl)
theorem sl4_2 : Ring.sl 4 (0 + 2) = 2 := Fin.ext (by rfl)
theorem sl4_3 : Ring.sl 4 (0 + 3) = 3 := Fin.ext (by rfl)
theorem bk27_0 : Ring.bk 27 0 = 0 := Fin.ext (by rfl)
theorem bk27_1 : Ring.bk 27 (0 + 1) = 1 := Fin.ext (by rfl)
theorem bk27_2 : Ring.bk 27 (0 + 2) = 2 := Fin.ext (by rfl)

/-- A free slot is its elements at some contents, and its semaphore at zero. -/
theorem freeP_eq (i : Fin 4) : freeP (F := F) c i = iprop((∃ f, slotP (F := F) c i f) ∗ cellP c i) := rfl

/-- The loop's invariant at `k` is the resources at `k`, with what the trips before `k` stored. -/
theorem loopInv_at (X : Buf (Elt F) (x.view.loc (c : Thread nD τ))) (S : Buf (Elt F) (s.view.loc (c : Thread nD τ)))
    (f : Buf (Elt F) (y.view.loc (c : Thread nD τ))) (k : ℕ) :
    (loopInv c W x hx s hs X S y hy f).inv k () = resAt c W x s X S y k (oAcc c W x hx s hs X S y hy f k) := rfl

/-- After the last trip every block is home and every slot free. -/
theorem resAt_last (X : Buf (Elt F) (x.view.loc (c : Thread nD τ))) (S : Buf (Elt F) (s.view.loc (c : Thread nD τ)))
    (f : Buf (Elt F) (y.view.loc (c : Thread nD τ))) :
    resAt c W x s X S y 27 f
      = iprop(yP c y f ∗ xP c x X ∗ sP c s S ∗ (∃ O, owes (c : Thread nD τ) 0 O) ∗ bigSep Finset.univ (homeP c W)
          ∗ freeP c 3 ∗ freeP c 0 ∗ freeP c 1 ∗ freeP c 2) := by
  unfold resAt
  rw [Ring.homeSet_last 3 27 (le_refl _), roleP_le c W 27 (le_refl _), roleP_le c W (27 + 1) (by omega), roleP_le c W (27 + 2) (by omega),
    show Ring.sl 4 27 = 3 from Fin.ext (by rfl), show Ring.sl 4 (27 + 1) = 0 from Fin.ext (by rfl),
    show Ring.sl 4 (27 + 2) = 1 from Fin.ext (by rfl), show Ring.sl 4 (27 + 3) = 2 from Fin.ext (by rfl)]

/-- After the last trip the invariant gives every block at home, every slot free and the staging buffer at what all trips stored. -/
theorem loopInv_last (X : Buf (Elt F) (x.view.loc (c : Thread nD τ))) (S : Buf (Elt F) (s.view.loc (c : Thread nD τ)))
    (f : Buf (Elt F) (y.view.loc (c : Thread nD τ))) :
    (loopInv c W x hx s hs X S y hy f).inv (Scf.trips k0_t1_loop.lb k0_t1_loop.ub k0_t1_loop.st) ()
      = iprop(yP c y (oAcc c W x hx s hs X S y hy f 27) ∗ xP c x X ∗ sP c s S ∗ (∃ O, owes (c : Thread nD τ) 0 O)
          ∗ bigSep Finset.univ (homeP c W) ∗ freeP c 3 ∗ freeP c 0 ∗ freeP c 1 ∗ freeP c 2) := by
  rw [show Scf.trips k0_t1_loop.lb k0_t1_loop.ub k0_t1_loop.st = 27 from trips, loopInv_at, resAt_last]

/-- The activations as the kernel's copy of them leaves them in vector memory. -/
abbrev xIn : Buf (Elt F) (x.view.loc (c : Thread nD τ)) :=
  x.view.writes (Elt F) x.view.junk [⟨Rect.whole S64x4096, ReadAs.same.apply (xH.view.read (Elt F) X0)⟩]
/-- The scales as the kernel's copy of them leaves them in vector memory. -/
abbrev sIn : Buf (Elt F) (s.view.loc (c : Thread nD τ)) :=
  s.view.writes (Elt F) s.view.junk [⟨Rect.whole S2x13824, ReadAs.same.apply (sH.view.read (Elt F) S0)⟩]

/-- The kernel runs from what it holds and leaves it as it was, the result's staging buffer at what the 27 trips stored. -/
theorem bodyRun (gY : Buf (Elt F) (y.view.loc (c : Thread nD τ))) (O) (Q : PUnit → sProp 𝕄) :
    iprop(yP c y gY ∗ Held c W X0 S0 x s ∗ owes (c : Thread nD τ) 0 O
      ∗ (yP c y (oAcc c W x hx s hs (xIn c X0 x) (sIn c S0 s) y hy gY 27) ∗ Held c W X0 S0 x s ∗ (∃ O, owes (c : Thread nD τ) 0 O) -∗ Q ⟨⟩))
      ⊢ wp frame (wpE (defs₀ (F := F)) 𝒱₀ (c : Thread nD τ) none) Set.univ (bodyG x hx s hs y hy) Q := by
  unfold Held freeP
  rw [homes_zero]
  iintro ⟨HY, ⟨HxH, HsH, ⟨Hh0, Hh1, Hh2, Hh⟩, ⟨%fx, Hx⟩, ⟨%fs, Hs⟩, ⟨⟨%f0, Hs0⟩, Hc0⟩, ⟨⟨%f1, Hs1⟩, Hc1⟩, ⟨⟨%f2, Hs2⟩, Hc2⟩, ⟨Hs3, Hc3⟩, HcX, HcS⟩, HO, HK⟩
  sl_exec
  ihave H0 : roleP c W 0 $$ [Hc0]
  · irw [roleP_lt c W 0 (by omega), sl4_0, bk27_0]; iexists f0; iexact Hc0
  ihave H1 : roleP c W (0 + 1) $$ [Hc1]
  · irw [roleP_lt c W (0 + 1) (by omega), sl4_1, bk27_1]; iexists f1; iexact Hc1
  ihave H2 : roleP c W (0 + 2) $$ [Hc2]
  · irw [roleP_lt c W (0 + 2) (by omega), sl4_2, bk27_2]; iexists f2; iexact Hc2
  ihave H3 : freeP c (Ring.sl 4 (0 + 3)) $$ [Hs3 Hc3]
  · irw [sl4_3]; unfold freeP; isplitl [Hs3]; · iexact Hs3
    iexact Hc3
  ihave HI : resAt c W x s (xIn c X0 x) (sIn c S0 s) y 0 gY $$ [HY Hx Hs HO Hh H0 H1 H2 H3]
  · unfold resAt
    isplitl [HY]; · iexact HY
    isplitl [Hx]; · iexact Hx
    isplitl [Hs]; · iexact Hs
    isplitl [HO]; · iexists _; iexact HO
    isplitl [Hh]; · iexact Hh
    isplitl [H0]; · iexact H0
    isplitl [H1]; · iexact H1
    isplitl [H2]; · iexact H2
    iexact H3
  iapply (exec_loop Idealize.ShloMosaic.frame (wpE (defs₀ (F := F)) 𝒱₀ (c : Thread nD τ) none) Set.univ _ _ _ _ _ _
    (loopInv c W x hx s hs (xIn c X0 x) (sIn c S0 s) y hy gY)) $$ [HI]
  · iapply (entails_of_eq (loopInv_at c W x hx s hs y hy (xIn c X0 x) (sIn c S0 s) gY 0).symm)
    iexact HI
  iintro %acc HI
  ihave HI := (entails_of_eq (loopInv_last c W x hx s hs y hy (xIn c X0 x) (sIn c S0 s) gY)) $$ [HI]
  · iexact HI
  icases HI with ⟨HY, Hx, Hs, HO, Hh, H3, H0, H1, H2⟩
  sl_step
  iapply HK
  isplitl [HY]; · iexact HY
  isplitr [HO]
  · isplitl [HxH]; · iexact HxH
    isplitl [HsH]; · iexact HsH
    isplitl [Hh]; · iapply (entails_of_eq (homes_zero c W)); iexact Hh
    isplitl [Hx]; · iexists _; iexact Hx
    isplitl [Hs]; · iexists _; iexact Hs
    isplitl [H0]; · iapply (entails_of_eq (freeP_eq c 0)); iexact H0
    isplitl [H1]; · iapply (entails_of_eq (freeP_eq c 1)); iexact H1
    isplitl [H2]; · iapply (entails_of_eq (freeP_eq c 2)); iexact H2
    isplitl [H3]; · iapply (entails_of_eq (freeP_eq c 3)); iexact H3
    isplitl [HcX]; · iexact HcX
    iexact HcS
  iexact HO

/-! ## What the trips leave in the result's staging buffer -/

section Result
variable (X : Buf (Elt F) (x.view.loc (c : Thread nD τ))) (S : Buf (Elt F) (s.view.loc (c : Thread nD τ)))

/-- The slot trip `k` loads from: block `k`'s words landed in it. -/
abbrev slotAt (k : Fin k0_t1_loop.trips) : Buf (Elt F) ((slot (Ring.sl 4 k.val)).view.loc (c : Thread nD τ)) :=
  landed c W (Ring.sl 4 k.val) (Ring.bk 27 k.val) (slot (Ring.sl 4 k.val)).view.junk

/-- The words trip `k` stores, from what it loads: the activations, two halves of the weight block, two rows of scales. -/
def pay (k : Fin k0_t1_loop.trips) : S64x512.Idx → Elt F .bf16 :=
  k0_pay1
    (k0_pay2
      (View.readAt (Elt F) wM.view (Rect.unit (s := S4x2x512x4096) (k0_off7 k) S1x1x512x4096.size (k0_off7_inb k)).toLoadRect (slotAt c W k))
      (View.readAt (Elt F) x.view (Rect.unit (s := S64x4096) ![0, 0] S64x4096.size inb_S64x4096_S64x4096_0_0).toLoadRect X)
      (View.readAt (Elt F) s.view (Rect.unit (s := S2x13824) (k0_off8 k) S1x512.size (k0_off8_inb k)).toLoadRect S))
    (k0_pay3
      (View.readAt (Elt F) wM.view (Rect.unit (s := S4x2x512x4096) (k0_off9 k) S1x1x512x4096.size (k0_off9_inb k)).toLoadRect (slotAt c W k)))
    (View.readAt (Elt F) x.view (Rect.unit (s := S64x4096) ![0, 0] S64x4096.size inb_S64x4096_S64x4096_0_0).toLoadRect X)
    (View.readAt (Elt F) s.view (Rect.unit (s := S2x13824) (k0_off10 k) S1x512.size (k0_off10_inb k)).toLoadRect S)

/-- Whatever the staging buffer held, trip `k` stores `pay k`. -/
theorem word_eq (k : Fin k0_t1_loop.trips) (f : Buf (Elt F) (y.view.loc (c : Thread nD τ))) :
    word c W x hx s hs X S y hy k f = pay c W x s X S k := by
  by_cases h : k.val + 3 < 27
  · rw [word_run c W x hx s hs X S y hy k h f]
    dsimp only [tripRun]
    unfold tripRun.sl.r tripRun.sl.r_1 tripRun.sl.v37 tripRun.sl.v48
    rfl
  · rw [word_tail c W x hx s hs X S y hy k h f]
    dsimp only [tripTail]
    unfold tripTail.sl.r tripTail.sl.r_1 tripTail.sl.v37 tripTail.sl.v48
    rfl

/-- Every column lies in the block of one of the trips. -/
theorem col_lt (i : S64x13824.Idx) : (i 1).val / 512 < k0_t1_loop.trips := by
  have h : (i 1).val < 13824 := (i 1).isLt
  have := trips; omega

/-- The whole result: column `o` is column `o % 512` of what trip `o / 512` stores. -/
def outB : S64x13824.Idx → Elt F .bf16 := fun i =>
  pay c W x s X S ⟨(i 1).val / 512, col_lt i⟩ (ValueIdx.ix2 (i 0) ⟨(i 1).val % 512, Nat.mod_lt _ (by decide)⟩)

/-- Before trip `n` the staging buffer's first `512 n` columns are the result's. -/
theorem oAcc_read (f : Buf (Elt F) (y.view.loc (c : Thread nD τ))) (n : ℕ) (hn : n ≤ 27) (i : S64x13824.Idx) (hi : (i 1).val < 512 * n) :
    y.view.read (Elt F) (oAcc c W x hx s hs X S y hy f n) i = outB c W x s X S i := by
  induction n with
  | zero => omega
  | succ n ih =>
    have hlt : n < k0_t1_loop.trips := by have := trips; omega
    rw [oAcc, dif_pos hlt, word_eq]
    by_cases h : (i 1).val < 512 * n
    · rw [← ih (by omega) h]
      exact View.read_writes_cons_unit_of_not_mem y.view _ (k0_off11_inb ⟨n, hlt⟩) _ [] i (k0_off11_eq ⟨n, hlt⟩) 1 (Or.inl h)
    · have e : (i 1).val / 512 = n := by omega
      refine (View.read_writes_cons_unit_of_mem y.view _ (k0_off11_inb ⟨n, hlt⟩) _ [] i
        (ValueIdx.ix2 (i 0) ⟨(i 1).val % 512, Nat.mod_lt _ (by decide)⟩) (k0_off11_eq ⟨n, hlt⟩) (fun a => ?_)).trans ?_
      · match a with
        | ⟨0, _⟩ => show (i 0).val = 0 + (i 0).val; omega
        | ⟨1, _⟩ => show (i 1).val = 512 * n + (i 1).val % 512; omega
      · unfold outB
        exact congrArg (fun k => pay c W x s X S k (ValueIdx.ix2 (i 0) ⟨(i 1).val % 512, Nat.mod_lt _ (by decide)⟩))
          (show (⟨n, hlt⟩ : Fin k0_t1_loop.trips) = ⟨(i 1).val / 512, col_lt i⟩ from Fin.ext e.symm)

/-- After the last trip the staging buffer reads the result. -/
theorem oAcc_last (f : Buf (Elt F) (y.view.loc (c : Thread nD τ))) :
    y.view.read (Elt F) (oAcc c W x hx s hs X S y hy f 27) = outB c W x s X S :=
  funext fun i => oAcc_read c W x hx s hs y hy X S f 27 (le_refl _) i (by have h : (i 1).val < 13824 := (i 1).isLt; omega)

end Result

end Body
end Cert.Kernel.Stream
end
-- ==== Proof.LaunchBits.lean ====
/-
  The kernel's launch: its buffers and semaphores split into the pieces its body works on, the body's run at the one
  point, and the whole program's run around it.
-/
module

public import proofs.«01_k».proof.Proof.RunBits

@[expose] public section

noncomputable section

namespace Cert.Kernel.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores, the weight blocks and the ring's slots as sets of elements -/

/-- The six semaphores of the kernel's own transfers: the activations', the four slots', the scales'. -/
abbrev osem : Fin 6 → SemLoc sig :=
  ![.dma cc0_scratch3.sem, .dma (csm 0).sem, .dma (csm 1).sem, .dma (csm 2).sem, .dma (csm 3).sem, .dma cc0_scratch5.sem]
/-- They are six different semaphores, none of them the pipeline's. -/
theorem ownSemFacts : Pipeline.OwnSemFacts spec0 osem := by decide

/-- Block `b`'s elements of the weights. -/
abbrev B27 (b : Fin 27) : Finset S2x13824x4096.Idx := (Rect.unit (s := S2x13824x4096) (blkOff b) S2x512x4096.size (blkOff_inb b)).set
/-- Slot `s`'s elements of the ring's buffer. -/
abbrev L4 (s : Fin 4) : Finset S4x2x512x4096.Idx := (Rect.unit (s := S4x2x512x4096) (slotOff s) S1x2x512x4096.size (slotOff_inb s)).set

omit [FloatOps F] in
/-- The kernel's slice of the weights at block `b` covers exactly the block's elements. -/
theorem blk_set (b : Fin 27) : (blk b : Memref sig .tc .hbm _ _).view.set = B27 b := View.set_slice_whole _ _
omit [FloatOps F] in
/-- The kernel's slice of the ring's buffer at slot `s` covers exactly the slot's elements. -/
theorem slot_set (s : Fin 4) : (slot s : Memref sig .tc .vmem _ _).view.set = L4 s := (View.set_reshape _ _).trans (View.set_slice_whole _ _)

/-- Block `b` holds the rows `512 b … 512 b + 511` of both matrices. -/
theorem mem_B27 (b : Fin 27) (i : S2x13824x4096.Idx) : i ∈ B27 b ↔ 512 * b.val ≤ (i 1).val ∧ (i 1).val < 512 * b.val + 512 := by
  rw [Rect.mem_set_unit]
  have h0 : (i 0).val < 2 := (i 0).isLt
  have h2 : (i 2).val < 4096 := (i 2).isLt
  constructor
  · intro H; exact H 1
  · intro H a; fin_cases a
    · show 0 ≤ (i 0).val ∧ (i 0).val < 0 + 2; omega
    · exact H
    · show 0 ≤ (i 2).val ∧ (i 2).val < 0 + 4096; omega
/-- Slot `s` is the buffer's leading index `s`. -/
theorem mem_L4 (s : Fin 4) (i : S4x2x512x4096.Idx) : i ∈ L4 s ↔ (i 0).val = s.val := by
  rw [Rect.mem_set_unit]
  have h1 : (i 1).val < 2 := (i 1).isLt
  have h2 : (i 2).val < 512 := (i 2).isLt
  have h3 : (i 3).val < 4096 := (i 3).isLt
  constructor
  · intro H; have a0 : s.val ≤ (i 0).val ∧ (i 0).val < s.val + 1 := H 0; omega
  · intro H a; fin_cases a
    · show s.val ≤ (i 0).val ∧ (i 0).val < s.val + 1; omega
    · show 0 ≤ (i 1).val ∧ (i 1).val < 0 + 2; omega
    · show 0 ≤ (i 2).val ∧ (i 2).val < 0 + 512; omega
    · show 0 ≤ (i 3).val ∧ (i 3).val < 0 + 4096; omega

/-- Different blocks share no element. -/
theorem B27_disjoint : ∀ b b' : Fin 27, b ≠ b' → Disjoint (B27 b) (B27 b') := by
  intro b b' hne; rw [Finset.disjoint_left]; intro i hi hi'; rw [mem_B27] at hi hi'; exact hne (Fin.ext (by omega))
/-- The blocks together are all of the weights. -/
theorem B27_cover : (Finset.univ : Finset (Fin 27)).biUnion B27 = Finset.univ := by
  ext i; simp only [Finset.mem_biUnion, Finset.mem_univ, true_and, iff_true]
  have h : (i 1).val < 13824 := (i 1).isLt
  exact ⟨⟨(i 1).val / 512, by omega⟩, by rw [mem_B27]; dsimp only; omega⟩
/-- Different slots share no element. -/
theorem L4_disjoint : ∀ s s' : Fin 4, s ≠ s' → Disjoint (L4 s) (L4 s') := by
  intro s s' hne; rw [Finset.disjoint_left]; intro i hi hi'; rw [mem_L4] at hi hi'; exact hne (Fin.ext (hi.symm.trans hi'))
/-- The slots together are the whole ring's buffer. -/
theorem L4_cover : (Finset.univ : Finset (Fin 4)).biUnion L4 = Finset.univ := by
  ext i; simp only [Finset.mem_biUnion, Finset.mem_univ, true_and, iff_true]; exact ⟨(i 0).cast (by decide), by rw [mem_L4]; rfl⟩

omit [FloatOps F] in
/-- A resource for each of four slots, written out. -/
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The weights whole are their 27 blocks at home. -/
theorem w_eq (c : Dev nD) (W : Buf (Elt F) ((c : Thread nD τ).loc main_arg1)) :
    (((c : Thread nD τ).loc main_arg1) ↦{fullShare} W : sProp 𝕄) = bigSep Finset.univ (homeP c W) := by
  rw [Ring.pointsTo_blocks (ℓ := (c : Thread nD τ).loc main_arg1) B27 B27_disjoint B27_cover]
  exact bigSep_congr fun b _ => by rw [← blk_set]; rfl

omit [FloatOps F] in
/-- A slot held through its view is its elements of the ring's buffer held. -/
theorem slotP_eq (c : Dev nD) (s : Fin 4) (f) : slotP c s f = (((c : Thread nD τ).loc cc0_scratch1) ↦[L4 s]{fullShare} f : sProp 𝕄) :=
  congrArg (fun S => (_ ↦[S]{fullShare} f : sProp 𝕄)) (slot_set s)

/-- The ring's buffer whole is its four slots, -/
theorem buf_split (c : Dev nD) :
    iprop(∃ f : Buf (Elt F) ((c : Thread nD τ).loc cc0_scratch1), ((c : Thread nD τ).loc cc0_scratch1) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) L4 L4_disjoint L4_cover f).trans (bigSep_fin4 _))) $$ H
  icases H2 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
/-- and back. -/
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) L4 L4_disjoint L4_cover f0)
  irw [bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- The kernel's own semaphores at zero, one by one. -/
theorem ownSems0_eq (c : Dev nD) : (Pipeline.ownSems0 (Ix := Unit) (Name := ℕ) (U := UU nD τ) (Lvl := ℕ) (Val := Elt F) (τ := τ) osem c : sProp 𝕄)
    = iprop(xCell c ∗ cellP c 0 ∗ cellP c 1 ∗ cellP c 2 ∗ cellP c 3 ∗ sCell c) :=
  Pipeline.ownSems0_eq_of_list c osem [0, 1, 2, 3, 4, 5] (by decide) (by decide)

/-- The three arrays the kernel reads in place: the reshaped activations, the weights, the scales. -/
abbrev HH : Finset (Ref sig .tc) := {main_v0, main_arg1, main_arg2}
/-- None of the three is an array of the pipeline's window. -/
theorem HH_rest : HH ⊆ Pipeline.restRefs sig spec0 := by decide

omit [FloatOps F] in
/-- A resource for each of the three arrays, written out. -/
theorem bigSep_HH (Φ : Ref sig .tc → sProp 𝕄) : bigSep HH Φ = iprop(Φ main_v0 ∗ Φ main_arg1 ∗ Φ main_arg2) := by
  rw [bigSep_insert (by decide), bigSep_insert (by decide), bigSep_singleton]; rfl

/-! ## The proof data of the one point -/

variable (m : (ℓ : Loc nD τ sig) → Buf (Elt F) ℓ) (ρ : Dev nD → PrngReg)

/-- The result's staging buffer at the one point. -/
abbrev st (t : Fin cfg0.N) : Memref sig .tc .vmem S64x13824 .bf16 := win0_0.stage (cfg0.slots t 0)
abbrev hst (t : Fin cfg0.N) : (st t).IsWhole := hstage0_0 0

/-- What the kernel holds besides the staging buffer, before and after the point, with the generator register. -/
def Φ (c : Dev nD) : sProp 𝕄 :=
  iprop(Held c (V m c main_arg1) (V m c main_v0) (V m c main_arg2) xM sM ∗ ∃ r, prngReg c r)

/-- The result from the region's entry contents of the activations, the weights and the scales. -/
def outC (c : Dev nD) : S64x13824.Idx → Elt F .bf16 :=
  outB c (V m c main_arg1) xM sM (xIn c (V m c main_v0) xM) (sIn c (V m c main_arg2) sM)

/-- What the one window's array and staging buffer hold, before and after the point. -/
def dats (_ : Fin 1) (c : Dev nD) : Dat τ (Elt F) Unit ℕ (UU nD τ) ℕ cfg0 c where
  A w := V m c (Pipeline.arrRef spec0 w)
  after w _ := match w with
    | ⟨0, _⟩ => outC m c
  Φ _ := Φ m c
  q _ := fullShare
  owed _ := 0

/-- After the point the staging buffer holds the result. -/
theorem after_w0 (c : Dev nD) (t : Fin cfg0.N) : (dats m 0 c).after 0 t = outC m c := by dsimp only [dats]

/-- The body the pipeline calls is the kernel on its staging and scratch buffers. -/
theorem defs_tc : (defs₀ (F := F)) .tc cfg0.body
    = fun a => bodyG xM (Memref.isWhole_whole _) sM (Memref.isWhole_whole _) (win0_0.stage (a.2 0)) (hstage0_0 0) := rfl
/-- So is the call at the one point. -/
theorem prog_eq (t : Fin cfg0.N) : (defs₀ (F := F)) .tc cfg0.body (cfg0.bodyArgs t (cfg0.slots t))
    = bodyG xM (Memref.isWhole_whole _) sM (Memref.isWhole_whole _) (st t) (hst t) :=
  (congrFun defs_tc _).trans rfl

set_option backward.isDefEq.respectTransparency.types false in
/-- The kernel's body at the one point leaves the result in the staging buffer and everything else as it was. -/
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HH, HR⟩, ⟨%O, -, HO⟩, ⟨%d, %g, -, HY⟩⟩
  sl_rw [prog_eq t]
  iapply (bodyRun c (V m c main_arg1) (V m c main_v0) (V m c main_arg2) xM (Memref.isWhole_whole _) sM (Memref.isWhole_whole _) (st t) (hst t) g O)
  isplitl [HY]; · iexact HY
  isplitl [HH]; · iexact HH
  isplitl [HO]; · iexact HO
  iintro ⟨HY, HH, ⟨%O', HO⟩⟩
  isplitl [HH HR]
  · isplitl [HH]; · iexact HH
    iexact HR
  isplitl [HO]
  · iexists O'; isplitr; · ipureintro; exact fun _ _ => Or.inl trivial
    iexact HO
  iexists _; isplitr
  · ipureintro
    exact oAcc_last c (V m c main_arg1) xM (Memref.isWhole_whole _) sM (Memref.isWhole_whole _) (st t) (hst t) (xIn c (V m c main_v0) xM) (sIn c (V m c main_arg2) sM) g
  iexact HY

/-! ## Entering and leaving the point -/

omit [FloatOps F] in
/-- A buffer held through its whole memref is the buffer held. -/
theorem whole_eq (c : Dev nD) (b : Ref sig .tc) (f : Buf (Elt F) ((c : Thread nD τ).loc b)) :
    ((View.whole b).loc (c : Thread nD τ) ↦[(View.whole b).set]{fullShare} f : sProp 𝕄) = (((c : Thread nD τ).loc b) ↦{fullShare} f) :=
  congrArg (fun S => (((c : Thread nD τ).loc b) ↦[S]{fullShare} f : sProp 𝕄)) (View.set_whole b)

/-- The buffers and semaphores the launch hands over are the pieces the kernel works on, -/
theorem enter (c : Dev nD) :
    Pipeline.ΦD osem spec0 HH (fun c b => V m c b) c ⊢ (Φ m c : sProp 𝕄) := by
  rw [Pipeline.ΦD_eq, scopedRest0_eq, ownSems0_eq, bigSep_HH, w_eq]
  unfold Φ Held
  simp only [freeP_eq]
  iintro ⟨⟨⟨%fx, Hx⟩, HB, ⟨%fs, Hs⟩⟩, HR, ⟨HcX, Hc0, Hc1, Hc2, Hc3, HcS⟩, HX, HW, HS⟩
  ihave HB := (buf_split c) $$ HB
  icases HB with ⟨H0, H1, H2, H3⟩
  isplitr [HR]
  · isplitl [HX]; · iapply (entails_of_eq (whole_eq c main_v0 (V m c main_v0)).symm); iexact HX
    isplitl [HS]; · iapply (entails_of_eq (whole_eq c main_arg2 (V m c main_arg2)).symm); iexact HS
    isplitl [HW]; · iexact HW
    isplitl [Hx]; · iexists fx; iapply (entails_of_eq (whole_eq c cc0_scratch0 fx).symm); iexact Hx
    isplitl [Hs]; · iexists fs; iapply (entails_of_eq (whole_eq c cc0_scratch2 fs).symm); iexact Hs
    isplitl [H0 Hc0]
    · isplitl [H0]; · iexact H0
      iexact Hc0
    isplitl [H1 Hc1]
    · isplitl [H1]; · iexact H1
      iexact Hc1
    isplitl [H2 Hc2]
    · isplitl [H2]; · iexact H2
      iexact Hc2
    isplitl [H3 Hc3]
    · isplitl [H3]; · iexact H3
      iexact Hc3
    isplitl [HcX]; · iexact HcX
    iexact HcS
  iexact HR

/-- and back. -/
theorem leave (c : Dev nD) :
    (Φ m c : sProp 𝕄) ⊢ Pipeline.ΦD osem spec0 HH (fun c b => V m c b) c := by
  rw [Pipeline.ΦD_eq, scopedRest0_eq, ownSems0_eq, bigSep_HH, w_eq]
  unfold Φ Held
  simp only [freeP_eq]
  iintro ⟨⟨HX, HS, HW, ⟨%fx, Hx⟩, ⟨%fs, Hs⟩, ⟨H0, Hc0⟩, ⟨H1, Hc1⟩, ⟨H2, Hc2⟩, ⟨H3, Hc3⟩, HcX, HcS⟩, HR⟩
  isplitl [Hx Hs H0 H1 H2 H3]
  · isplitl [Hx]; · iexists fx; iapply (entails_of_eq (whole_eq c cc0_scratch0 fx)); iexact Hx
    isplitr [Hs]
    · iapply (buf_join c)
      isplitl [H0]; · iexact H0
      isplitl [H1]; · iexact H1
      isplitl [H2]; · iexact H2
      iexact H3
    iexists fs; iapply (entails_of_eq (whole_eq c cc0_scratch2 fs)); iexact Hs
  isplitl [HR]; · iexact HR
  isplitl [HcX Hc0 Hc1 Hc2 Hc3 HcS]
  · isplitl [HcX]; · iexact HcX
    isplitl [Hc0]; · iexact Hc0
    isplitl [Hc1]; · iexact Hc1
    isplitl [Hc2]; · iexact Hc2
    isplitl [Hc3]; · iexact Hc3
    iexact HcS
  isplitl [HX]; · iapply (entails_of_eq (whole_eq c main_v0 (V m c main_v0))); iexact HX
  isplitl [HW]; · iexact HW
  iapply (entails_of_eq (whole_eq c main_arg2 (V m c main_arg2))); iexact HS

/-! ## The whole program's run -/

set_option maxHeartbeats 800000 in
/-- @main is its first line, the kernel, then its last line. -/
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The last line touches none of the arrays the kernel reads in place. -/
theorem sfx_sub : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [Finset.mem_insert, Finset.mem_singleton] at hb
  simp only [StableHlo.reshape_bufs, Finset.mem_insert, Finset.mem_singleton, not_or]
  rcases hb with rfl | rfl | rfl <;> exact ⟨StableHlo.devRef_ne_of_ne (by decide), StableHlo.devRef_ne_of_ne (by decide)⟩

/-- The program runs; its buffers end at the contents the last line leaves over the kernel's result, and every semaphore
    at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = (fun _ => 0)) :=
  Pipeline.θ_run_frame_dma_around cfgs (dats m) 0 launch0 osem defs₀ 𝒱₀ ownSemFacts HH HH_rest m ρ main
    (fun c => (body_obligation m c).loose) (fun c => (dats m 0 c).share_full fun _ => rfl) (fun _ _ => rfl)
    (V0 m) [hostOps1] sfx_sub sfx_fresh sfx_keeps (hmain m) (fun _ _ => rfl) (enter m) (leave m)
    _ (fun _ h => h)

/-! ## The arguments are unchanged -/

/-- The program leaves argument 0 as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The program leaves argument 1 as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The program leaves argument 2 as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The program runs, leaves its three arguments as launched and ends with every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (W_main_arg0 m c),
      ((h.1 c).2 main_arg1 (Pipeline.mem_restRefs_of main_arg1 (by decide) (by decide))).trans (W_main_arg1 m c),
      ((h.1 c).2 main_arg2 (Pipeline.mem_restRefs_of main_arg2 (by decide) (by decide))).trans (W_main_arg2 m c)⟩, h.2⟩) (run_main m ρ)

end Cert.Kernel.Stream

end
-- ==== Proof.lean ====
/-
  The proof of `Cert.Claim`: the three programs run, leave their arguments unchanged and end with every semaphore at zero;
  idealizing the kernel rewrote nothing; and in the extended reals the kernel's result is the reference's.
-/
module

public import proofs.«01_k».proof.Defs
public import proofs.«01_k».proof.Proof.RefValue
public import proofs.«01_k».proof.Proof.KernelValue
public import proofs.«01_k».proof.Proof.LaunchBits
public import proofs.«01_k».proof.Proof.LaunchIdeal
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Proof

open Idealize.ShloMosaic Idealize.ShloMosaic.TcCoe Idealize.SL.Sem
open Cert.ReferenceIdeal.RefValue (whole)

/-- The reference runs, its arguments are unchanged, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From equal arguments the idealized kernel and the reference both run and end with equal results: each holds the int8
    gated linear unit of the arguments. -/
theorem algebraic : Cert.algebraic_KernelIdeal_ReferenceIdeal (hKernelIdeal := Cert.KernelIdeal.Gen.facts)
    (hReferenceIdeal := Cert.ReferenceIdeal.Gen.facts) := by
  intro m ρ m' ρ' _ hargs
  refine ⟨fun c => whole (Cert.KernelIdeal.RefValue.AX m c) (Cert.KernelIdeal.RefValue.AW m c) (Cert.KernelIdeal.RefValue.AS m c),
    Cert.KernelIdeal.RefValue.run m ρ, ?_⟩
  refine (θ_run Cert.ReferenceIdeal.defs _ _).mono (fun r h c => ?_) (Cert.ReferenceIdeal.Value.run (F := Ideal) m' ρ')
  refine ⟨(h c).1.trans ?_, (h c).2⟩
  refine (Cert.ReferenceIdeal.Read.val_main_v24_eq _ _ _).trans ((Cert.ReferenceIdeal.RefValue.result_eq _ _ _).trans ?_)
  rw [(hargs c).1, (hargs c).2.1, (hargs c).2.2]

/-- Everything claimed. -/
theorem claim : Cert.Claim :=
  ⟨Cert.Kernel.Gen.facts, Cert.KernelIdeal.Gen.facts, Cert.ReferenceIdeal.Gen.facts,
    fun m ρ _ => Cert.Kernel.Stream.frame m ρ, fun m ρ _ => Cert.KernelIdeal.Stream.frame m ρ, frame_reference, trivial, algebraic⟩

end Cert.Proof

end
